-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S16x1024x768 : Shape := ⟨3, ![16, 1024, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  bcast_S_S768x768 : S_.BroadcastsInDim S768x768 (![] : Fin 0 → Fin S768x768.rank)
  bcast_S_S768 : S_.BroadcastsInDim S768 (![] : Fin 0 → Fin S768.rank)

variable [Facts]

def fn {F : FTy → Type} [FloatOps F] (main_arg0 : FVec F S16x1024x768 .f32) (main_arg1 : FVec F S768x768 .f32) (main_arg2 : FVec F S768 .f32) : IVec S16x1024x768 1 × IVec S768x768 1 × IVec S768 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_v3 : FVec F S768x768 .f32 := Host.absf main_arg1
  let main_cst_0 : FVec F S_ .f32 := constant S_ .f32 0x7F800000#32
  let main_v4 : FVec F S768x768 .f32 := broadcastInDim S768x768 ![] bcast_S_S768x768 main_cst_0
  let main_v5 : IVec S768x768 1 := cmpf .olt main_v3 main_v4
  let main_v6 : FVec F S768 .f32 := Host.absf main_arg2
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  (main_v2, main_v5, main_v8)
-- ==== Kernel.lean ====
abbrev S16x1024x768 : Shape := ⟨3, ![16, 1024, 768]⟩
abbrev S768x768 : Shape := ⟨2, ![768, 768]⟩
abbrev S768 : Shape := ⟨1, ![768]⟩
abbrev S256x256 : Shape := ⟨2, ![256, 256]⟩
abbrev S3x1x256 : Shape := ⟨3, ![3, 1, 256]⟩
abbrev S1x256 : Shape := ⟨2, ![1, 256]⟩
abbrev S16384x768 : Shape := ⟨2, ![16384, 768]⟩
abbrev S1x768 : Shape := ⟨2, ![1, 768]⟩
abbrev S3x256x1 : Shape := ⟨3, ![3, 256, 1]⟩
abbrev S1x256x256 : Shape := ⟨3, ![1, 256, 256]⟩
abbrev S3x256x256 : Shape := ⟨3, ![3, 256, 256]⟩
abbrev S2048x768 : Shape := ⟨2, ![2048, 768]⟩
abbrev S4x1x256 : Shape := ⟨3, ![4, 1, 256]⟩
abbrev S1x1x256 : Shape := ⟨3, ![1, 1, 256]⟩
abbrev S2048x256 : Shape := ⟨2, ![2048, 256]⟩

abbrev nBuf : Space → Nat
  | .hbm => 18
  | .vmem => 11
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S256x256, .f32⟩
  | .hbm, ⟨4, _⟩ => ⟨S3x1x256, .f32⟩
  | .hbm, ⟨5, _⟩ => ⟨S1x256, .f32⟩
  | .hbm, ⟨6, _⟩ => ⟨S16384x768, .f32⟩
  | .hbm, ⟨7, _⟩ => ⟨S1x768, .f32⟩
  | .hbm, ⟨8, _⟩ => ⟨S768x768, .bf16⟩
  | .hbm, ⟨9, _⟩ => ⟨S3x256x1, .f32⟩
  | .hbm, ⟨10, _⟩ => ⟨S1x256x256, .f32⟩
  | .hbm, ⟨11, _⟩ => ⟨S3x256x256, .f32⟩
  | .hbm, ⟨12, _⟩ => ⟨S3x256x256, .f32⟩
  | .hbm, ⟨13, _⟩ => ⟨S3x256x256, .f32⟩
  | .hbm, ⟨14, _⟩ => ⟨S3x256x256, .bf16⟩
  | .hbm, ⟨15, _⟩ => ⟨S256x256, .bf16⟩
  | .hbm, ⟨16, _⟩ => ⟨S16384x768, .f32⟩
  | .hbm, ⟨17, _⟩ => ⟨S16x1024x768, .f32⟩
  | .local _ .vmem, ⟨0, _⟩ => ⟨S2048x768, .f32⟩
  | .local _ .vmem, ⟨1, _⟩ => ⟨S2048x768, .f32⟩
  | .local _ .vmem, ⟨2, _⟩ => ⟨S768x768, .bf16⟩
  | .local _ .vmem, ⟨3, _⟩ => ⟨S1x768, .f32⟩
  | .local _ .vmem, ⟨4, _⟩ => ⟨S3x256x256, .bf16⟩
  | .local _ .vmem, ⟨5, _⟩ => ⟨S256x256, .bf16⟩
  | .local _ .vmem, ⟨6, _⟩ => ⟨S3x1x256, .f32⟩
  | .local _ .vmem, ⟨7, _⟩ => ⟨S1x256, .f32⟩
  | .local _ .vmem, ⟨8, _⟩ => ⟨S2048x768, .f32⟩
  | .local _ .vmem, ⟨9, _⟩ => ⟨S2048x768, .f32⟩
  | .local _ .vmem, ⟨10, _⟩ => ⟨S4x1x256, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x1024x768 : Shape := ⟨3, ![16, 1024, 768]⟩
abbrev S768x768 : Shape := ⟨2, ![768, 768]⟩
abbrev S768 : Shape := ⟨1, ![768]⟩
abbrev S1024 : Shape := ⟨1, ![1024]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S128x256 : Shape := ⟨2, ![128, 256]⟩
abbrev S256x256 : Shape := ⟨2, ![256, 256]⟩
abbrev S256x512 : Shape := ⟨2, ![256, 512]⟩
abbrev S512x512 : Shape := ⟨2, ![512, 512]⟩
abbrev S512x1024 : Shape := ⟨2, ![512, 1024]⟩
abbrev S1024x1024 : Shape := ⟨2, ![1024, 1024]⟩
abbrev S1x1x768 : Shape := ⟨3, ![1, 1, 768]⟩
abbrev S16x1024x1024 : Shape := ⟨3, ![16, 1024, 1024]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S1024, .f32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S1x2, .f32⟩
  | .hbm, ⟨8, _⟩ => ⟨S1x2, .f32⟩
  | .hbm, ⟨9, _⟩ => ⟨S2x2, .f32⟩
  | .hbm, ⟨10, _⟩ => ⟨S2x2, .f32⟩
  | .hbm, ⟨11, _⟩ => ⟨S2x4, .f32⟩
  | .hbm, ⟨12, _⟩ => ⟨S2x4, .f32⟩
  | .hbm, ⟨13, _⟩ => ⟨S4x4, .f32⟩
  | .hbm, ⟨14, _⟩ => ⟨S4x4, .f32⟩
  | .hbm, ⟨15, _⟩ => ⟨S4x8, .f32⟩
  | .hbm, ⟨16, _⟩ => ⟨S4x8, .f32⟩
  | .hbm, ⟨17, _⟩ => ⟨S8x8, .f32⟩
  | .hbm, ⟨18, _⟩ => ⟨S8x8, .f32⟩
  | .hbm, ⟨19, _⟩ => ⟨S8x16, .f32⟩
  | .hbm, ⟨20, _⟩ => ⟨S8x16, .f32⟩
  | .hbm, ⟨21, _⟩ => ⟨S16x16, .f32⟩
  | .hbm, ⟨22, _⟩ => ⟨S16x16, .f32⟩
  | .hbm, ⟨23, _⟩ => ⟨S16x32, .f32⟩
  | .hbm, ⟨24, _⟩ => ⟨S16x32, .f32⟩
  | .hbm, ⟨25, _⟩ => ⟨S32x32, .f32⟩
  | .hbm, ⟨26, _⟩ => ⟨S32x32, .f32⟩
  | .hbm, ⟨27, _⟩ => ⟨S32x64, .f32⟩
  | .hbm, ⟨28, _⟩ => ⟨S32x64, .f32⟩
  | .hbm, ⟨29, _⟩ => ⟨S64x64, .f32⟩
  | .hbm, ⟨30, _⟩ => ⟨S64x64, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S128x128, .f32⟩
  | .hbm, ⟨35, _⟩ => ⟨S128x256, .f32⟩
  | .hbm, ⟨36, _⟩ => ⟨S128x256, .f32⟩
  | .hbm, ⟨37, _⟩ => ⟨S256x256, .f32⟩
  | .hbm, ⟨38, _⟩ => ⟨S256x256, .f32⟩
  | .hbm, ⟨39, _⟩ => ⟨S256x512, .f32⟩
  | .hbm, ⟨40, _⟩ => ⟨S256x512, .f32⟩
  | .hbm, ⟨41, _⟩ => ⟨S512x512, .f32⟩
  | .hbm, ⟨42, _⟩ => ⟨S512x512, .f32⟩
  | .hbm, ⟨43, _⟩ => ⟨S512x1024, .f32⟩
  | .hbm, ⟨44, _⟩ => ⟨S512x1024, .f32⟩
  | .hbm, ⟨45, _⟩ => ⟨S1024x1024, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S16x1024x768, .f32⟩
  | .hbm, ⟨51, _⟩ => ⟨S1x1x768, .f32⟩
  | .hbm, ⟨52, _⟩ => ⟨S16x1024x768, .f32⟩
  | .hbm, ⟨53, _⟩ => ⟨S16x1024x768, .f32⟩
  | .hbm, ⟨54, _⟩ => ⟨S_, .i32⟩
  | .hbm, ⟨55, _⟩ => ⟨S_, .f32⟩
  | .hbm, ⟨56, _⟩ => ⟨S16x1024x1024, .f32⟩
  | .hbm, ⟨57, _⟩ => ⟨S1x1x1024, .f32⟩
  | .hbm, ⟨58, _⟩ => ⟨S16x1024x1024, .f32⟩
  | .hbm, ⟨59, _⟩ => ⟨S16x1024x1024, .f32⟩
  | .hbm, ⟨60, _⟩ => ⟨S16x1024x1024, .f32⟩
  | .hbm, ⟨61, _⟩ => ⟨S_, .f32⟩
  | .hbm, ⟨62, _⟩ => ⟨S16x1024x1024, .f32⟩
  | .hbm, ⟨63, _⟩ => ⟨S16x1024x1024, .f32⟩
  | .hbm, ⟨64, _⟩ => ⟨S_, .f32⟩
  | .hbm, ⟨65, _⟩ => ⟨S16x1024x1024, .f32⟩
  | .hbm, ⟨66, _⟩ => ⟨S16x1024x1024, .f32⟩
  | .hbm, ⟨67, _⟩ => ⟨S16x1024x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x1024x1024, .f32⟩
  | .hbm, ⟨72, _⟩ => ⟨S16x1024x1024, .f32⟩
  | .hbm, ⟨73, _⟩ => ⟨S_, .f32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S16x1024x1024, .f32⟩
  | .hbm, ⟨78, _⟩ => ⟨S16x1024x1024, .f32⟩
  | .hbm, ⟨79, _⟩ => ⟨S_, .f32⟩
  | .hbm, ⟨80, _⟩ => ⟨S16x1024x1024, .f32⟩
  | .hbm, ⟨81, _⟩ => ⟨S16x1024x1024, .f32⟩
  | .hbm, ⟨82, _⟩ => ⟨S16x1024x1024, .f32⟩
  | .hbm, ⟨83, _⟩ => ⟨S1x1x1024, .f32⟩
  | .hbm, ⟨84, _⟩ => ⟨S16x1024x1024, .f32⟩
  | .hbm, ⟨85, _⟩ => ⟨S16x1024x1024, .f32⟩
  | .hbm, ⟨86, _⟩ => ⟨S16x1024x1024, .f32⟩
  | .hbm, ⟨87, _⟩ => ⟨S16x1024x1024, .f32⟩
  | .hbm, ⟨88, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_v1 : Ref sig .tc := ⟨.hbm, 16, rfl⟩
abbrev main_v6 : Ref sig .tc := ⟨.hbm, 17, rfl⟩
abbrev main_v7 : Ref sig .tc := ⟨.hbm, 18, rfl⟩
abbrev main_call3_v0 : Ref sig .tc := ⟨.hbm, 19, rfl⟩
abbrev main_call3_v1 : Ref sig .tc := ⟨.hbm, 20, rfl⟩
abbrev main_v8 : Ref sig .tc := ⟨.hbm, 21, rfl⟩
abbrev main_v9 : Ref sig .tc := ⟨.hbm, 22, rfl⟩
abbrev main_call4_v0 : Ref sig .tc := ⟨.hbm, 23, rfl⟩
abbrev main_call4_v1 : Ref sig .tc := ⟨.hbm, 24, rfl⟩
abbrev main_v10 : Ref sig .tc := ⟨.hbm, 25, rfl⟩
abbrev main_v11 : Ref sig .tc := ⟨.hbm, 26, rfl⟩
abbrev main_call5_v0 : Ref sig .tc := ⟨.hbm, 27, rfl⟩
abbrev main_call5_v1 : Ref sig .tc := ⟨.hbm, 28, rfl⟩
abbrev main_v12 : Ref sig .tc := ⟨.hbm, 29, rfl⟩
abbrev main_v13 : Ref sig .tc := ⟨.hbm, 30, rfl⟩
abbrev main_call6_v0 : Ref sig .tc := ⟨.hbm, 31, rfl⟩
abbrev main_call6_v1 : Ref sig .tc := ⟨.hbm, 32, rfl⟩
abbrev main_v14 : Ref sig .tc := ⟨.hbm, 33, rfl⟩
abbrev main_v15 : Ref sig .tc := ⟨.hbm, 34, rfl⟩
abbrev main_call7_v0 : Ref sig .tc := ⟨.hbm, 35, rfl⟩
abbrev main_call7_v1 : Ref sig .tc := ⟨.hbm, 36, rfl⟩
abbrev main_v16 : Ref sig .tc := ⟨.hbm, 37, rfl⟩
abbrev main_v17 : Ref sig .tc := ⟨.hbm, 38, rfl⟩
abbrev main_call8_v0 : Ref sig .tc := ⟨.hbm, 39, rfl⟩
abbrev main_call8_v1 : Ref sig .tc := ⟨.hbm, 40, rfl⟩
abbrev main_v18 : Ref sig .tc := ⟨.hbm, 41, rfl⟩
abbrev main_v19 : Ref sig .tc := ⟨.hbm, 42, rfl⟩
abbrev main_call9_v0 : Ref sig .tc := ⟨.hbm, 43, rfl⟩
abbrev main_call9_v1 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c : Ref sig .tc := ⟨.hbm, 54, rfl⟩
abbrev main_call10_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_4 : Ref sig .tc := ⟨.hbm, 68, rfl⟩
abbrev main_cst_5 : Ref sig .tc := ⟨.hbm, 69, rfl⟩
abbrev main_call12_v0 : Ref sig .tc := ⟨.hbm, 70, rfl⟩
abbrev main_call12_v1 : Ref sig .tc := ⟨.hbm, 71, rfl⟩
abbrev main_call12_v2 : Ref sig .tc := ⟨.hbm, 72, rfl⟩
abbrev main_call12_v3 : Ref sig .tc := ⟨.hbm, 73, rfl⟩
abbrev main_call12_v4 : Ref sig .tc := ⟨.hbm, 74, rfl⟩
abbrev main_v38 : Ref sig .tc := ⟨.hbm, 75, rfl⟩
abbrev main_cst_6 : Ref sig .tc := ⟨.hbm, 76, rfl⟩
abbrev main_v39 : Ref sig .tc := ⟨.hbm, 77, rfl⟩
abbrev main_v40 : Ref sig .tc := ⟨.hbm, 78, rfl⟩
abbrev main_cst_7 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩

abbrev nD : Nat := 1
abbrev τ : Topo := Topo.v7x

variable {F : FTy → Type} [FloatOps F]
-- ==== Proof.Hadamard.lean ====
/- The signs of the Hadamard matrix and their sums, over the integers and the reals: no program is mentioned here. -/
module

public import Mathlib.Data.Real.Basic
public import Mathlib.Data.Nat.Bits
public import Mathlib.Algebra.BigOperators.Fin
public import Mathlib.Algebra.BigOperators.Intervals
public import Mathlib.Tactic.Linarith
public import Mathlib.Tactic.Ring
public import Mathlib.Tactic.Positivity

@[expose] public section

noncomputable section

namespace Cert.Rotor

/-- The parity of the lowest `k` binary digits of `n`: true when an odd number of them are ones. -/
def par : ℕ → ℕ → Bool
  | 0, _ => false
  | k + 1, n => Bool.xor (n.testBit k) (par k n)

/-- The real number a sign bit stands for: −1 for true, 1 for false. -/
def sg (b : Bool) : ℝ := bif b then -1 else 1

/-- The exclusive or of two sign bits stands for the product. -/
theorem sg_xor (a b : Bool) : sg (Bool.xor a b) = sg a * sg b := by
  cases a <;> cases b <;> simp [sg]

/-- A sign is its own inverse. -/
theorem sg_mul_self (a : Bool) : sg a * sg a = 1 := by cases a <;> simp [sg]

/-- The parity of the lowest `k` digits reads no digit above them. -/
theorem par_mod (k K n : ℕ) (h : k ≤ K) : par k (n % 2 ^ K) = par k n := by
  induction k with
  | zero => rfl
  | succ k ih => simp only [par, ih (by omega), Nat.testBit_mod_two_pow]; simp [show k < K by omega]

/-- Two numbers with the same lowest `k` digits have the same parity of them. -/
theorem par_congr (k : ℕ) {n n' : ℕ} (h : ∀ d < k, n.testBit d = n'.testBit d) : par k n = par k n' := by
  induction k with
  | zero => rfl
  | succ k ih => simp only [par, ih (fun d hd => h d (by omega)), h k (by omega)]

/-- The sign bit of the entry in row `i` and column `j` of the Hadamard matrix of size `2 ^ k`: the parity of the common
    binary digits of `i` and `j`. -/
def had (k i j : ℕ) : Bool := par k (i &&& j)

theorem had_comm (k i j : ℕ) : had k i j = had k j i := by unfold had; rw [Nat.and_comm]

/-- One doubling of the matrix: the sign changes in the lower right quarter only. -/
theorem had_succ (k i j : ℕ) : had (k + 1) i j = Bool.xor (i.testBit k && j.testBit k) (had k i j) := by
  simp only [had, par, Nat.testBit_and]

/-- An entry depends on the lowest `k` digits of its row and column only. -/
theorem had_congr (k : ℕ) {i i' j j' : ℕ} (hi : i % 2 ^ k = i' % 2 ^ k) (hj : j % 2 ^ k = j' % 2 ^ k) :
    had k i j = had k i' j' := by
  refine par_congr k fun d hd => ?_
  have t : ∀ n n' : ℕ, n % 2 ^ k = n' % 2 ^ k → n.testBit d = n'.testBit d := fun n n' h => by
    have h1 := Nat.testBit_mod_two_pow n k d
    have h2 := Nat.testBit_mod_two_pow n' k d
    rw [h] at h1; simp only [hd, decide_true, Bool.true_and] at h1 h2; rw [← h1, h2]
  rw [Nat.testBit_and, Nat.testBit_and, t i i' hi, t j j' hj]

/-- The digit `k` of a number below `2 ^ (k + 1)` says in which half it lies. -/
theorem testBit_half (k i : ℕ) (h : i < 2 ^ (k + 1)) : i.testBit k = decide (2 ^ k ≤ i) := by
  by_cases hk : 2 ^ k ≤ i
  · obtain ⟨d, rfl⟩ := Nat.exists_eq_add_of_le hk
    rw [Nat.testBit_two_pow_add_eq, Nat.testBit_lt_two_pow (by rw [pow_succ] at h; omega)]; simp
  · rw [Nat.testBit_lt_two_pow (by omega)]; simp [hk]

/-- The matrix of size 1024 in blocks of 256: the entry at row `256 a + i` and column `256 s + g` is the entry `(a, s)` of
    the matrix of size 4 times the entry `(i, g)` of the matrix of size 256. -/
theorem had_blocks (a i s g : ℕ) (hi : i < 256) (hg : g < 256) :
    had 10 (256 * a + i) (256 * s + g) = Bool.xor (had 2 a s) (had 8 i g) := by
  have hb : ∀ (x y d : ℕ), y < 256 → (256 * x + y).testBit (8 + d) = x.testBit d := fun x y d hy => by
    rw [show 256 * x + y = 2 ^ 8 * x + y by norm_num, Nat.testBit_two_pow_mul_add x hy]
    simp
  rw [had_succ 9, had_succ 8,
    show (9 : ℕ) = 8 + 1 from rfl, hb a i 1 hi, hb s g 1 hg]
  have e8 := hb a i 0 hi
  have e8' := hb s g 0 hg
  rw [show (8 + 0 : ℕ) = 8 from rfl] at e8 e8'
  rw [e8, e8', had_congr 8 (i := 256 * a + i) (i' := i) (j := 256 * s + g) (j' := g) (by norm_num) (by norm_num)]
  have h2 : had 2 a s = Bool.xor (a.testBit 1 && s.testBit 1) (Bool.xor (a.testBit 0 && s.testBit 0) false) := by
    rw [had_succ 1, had_succ 0]; rfl
  rw [h2]
  generalize (a.testBit 1 && s.testBit 1) = u
  generalize (a.testBit 0 && s.testBit 0) = v
  cases u <;> cases v <;> simp

/-- The sum of a row of the Hadamard matrix of size `2 ^ k` is `2 ^ k` for the row of ones and zero for every other. -/
theorem sum_had (k j : ℕ) : ∑ g ∈ Finset.range (2 ^ k), sg (had k g j) = if j % 2 ^ k = 0 then (2 : ℝ) ^ k else 0 := by
  induction k with
  | zero => simp [had, par, sg, Nat.mod_one]
  | succ k ih =>
    rw [pow_succ 2 k, mul_two, Finset.sum_range_add]
    have e0 : ∀ g ∈ Finset.range (2 ^ k), sg (had (k + 1) g j) = sg (had k g j) := fun g hg => by
      rw [had_succ, Nat.testBit_lt_two_pow (Finset.mem_range.mp hg)]; simp
    have e1 : ∀ g ∈ Finset.range (2 ^ k), sg (had (k + 1) (2 ^ k + g) j) = sg (j.testBit k) * sg (had k g j) :=
      fun g hg => by
        rw [had_succ, Nat.testBit_two_pow_add_eq, Nat.testBit_lt_two_pow (Finset.mem_range.mp hg), sg_xor,
          had_congr k (i := 2 ^ k + g) (i' := g) (j := j) (j' := j) (by simp) rfl]
        simp
    rw [Finset.sum_congr rfl e0, Finset.sum_congr rfl e1, ← Finset.mul_sum, ih]
    have hm : j % 2 ^ (k + 1) = j % 2 ^ k + 2 ^ k * (j / 2 ^ k % 2) := by rw [pow_succ, Nat.mod_mul]
    have hp : 0 < 2 ^ k := by positivity
    have ht : j.testBit k = decide (j / 2 ^ k % 2 = 1) := by
      rw [Nat.testBit_eq_decide_div_mod_eq]
    rw [show 2 ^ k + 2 ^ k = 2 ^ (k + 1) by rw [pow_succ, mul_two], hm, ht]
    rcases Nat.mod_two_eq_zero_or_one (j / 2 ^ k) with h | h
    · rw [h]; by_cases hj : j % 2 ^ k = 0
      · simp [hj, sg, pow_succ, mul_two]
      · simp [hj, sg]
    · rw [h]; by_cases hj : j % 2 ^ k = 0
      · simp [hj, sg]
      · simp [hj, sg]

end Cert.Rotor

end
-- ==== Proof.Tables.lean ====
/- The random signs as one number, the parities below 256 as another, and long tables of words cut into pages and lines: no
   program is mentioned here. -/
module

public import proofs.«01_k».proof.Proof.Hadamard
public import Mathlib.Tactic.IntervalCases

@[expose] public section

noncomputable section

namespace Cert.Rotor

/-- The 1024 random signs as the binary digits of one number: digit `I` is a one when the sign of feature `I` is −1. -/
def coins : ℕ := 0x40ce08ee16ec17b202bd67b587d076f2a98ac8a9c169208453b8af57b14002c95f0e9840f90570d1891a850f93d8860e40662c31644fd2b3ae589e1649bc6b759af7c5118ad43c9588573d39fb5af83964f01625239b91c49926c83631d07a41083eb92c08ce31a6666e6fee1a5710aaaa1f3a5347faa038d942a475b2ffb074

/-- The sign bit of feature `I`. -/
def coin (I : ℕ) : Bool := coins.testBit I

/-- The digits of this number are the parities of the numbers below 256. -/
def parities : ℕ := 0x6996966996696996966969966996966996696996699696696996966996696996

/-- The parity of a number below 256, looked up. -/
theorem par_eight : ∀ n : Fin 256, par 8 n = parities.testBit n := by decide +kernel

/-- The sign bit of the 256 by 256 Hadamard matrix, looked up. -/
theorem had_eight (i j : ℕ) (hi : i < 256) : had 8 i j = parities.testBit (i &&& j) :=
  par_eight ⟨i &&& j, lt_of_le_of_lt Nat.and_le_left hi⟩

/-- One of two words, chosen by a sign bit. -/
def word (pos neg : BitVec 32) (b : Bool) : BitVec 32 := bif b then neg else pos

/-- The value of `a` at a digit below 128, spelt as the case distinction the tables are printed with. -/
def digit (a : ℕ → BitVec 32) (d : ℕ) : BitVec 32 := match d with
  | 0 => a 0 | 1 => a 1 | 2 => a 2 | 3 => a 3 | 4 => a 4 | 5 => a 5 | 6 => a 6 | 7 => a 7
  | 8 => a 8 | 9 => a 9 | 10 => a 10 | 11 => a 11 | 12 => a 12 | 13 => a 13 | 14 => a 14 | 15 => a 15
  | 16 => a 16 | 17 => a 17 | 18 => a 18 | 19 => a 19 | 20 => a 20 | 21 => a 21 | 22 => a 22 | 23 => a 23
  | 24 => a 24 | 25 => a 25 | 26 => a 26 | 27 => a 27 | 28 => a 28 | 29 => a 29 | 30 => a 30 | 31 => a 31
  | 32 => a 32 | 33 => a 33 | 34 => a 34 | 35 => a 35 | 36 => a 36 | 37 => a 37 | 38 => a 38 | 39 => a 39
  | 40 => a 40 | 41 => a 41 | 42 => a 42 | 43 => a 43 | 44 => a 44 | 45 => a 45 | 46 => a 46 | 47 => a 47
  | 48 => a 48 | 49 => a 49 | 50 => a 50 | 51 => a 51 | 52 => a 52 | 53 => a 53 | 54 => a 54 | 55 => a 55
  | 56 => a 56 | 57 => a 57 | 58 => a 58 | 59 => a 59 | 60 => a 60 | 61 => a 61 | 62 => a 62 | 63 => a 63
  | 64 => a 64 | 65 => a 65 | 66 => a 66 | 67 => a 67 | 68 => a 68 | 69 => a 69 | 70 => a 70 | 71 => a 71
  | 72 => a 72 | 73 => a 73 | 74 => a 74 | 75 => a 75 | 76 => a 76 | 77 => a 77 | 78 => a 78 | 79 => a 79
  | 80 => a 80 | 81 => a 81 | 82 => a 82 | 83 => a 83 | 84 => a 84 | 85 => a 85 | 86 => a 86 | 87 => a 87
  | 88 => a 88 | 89 => a 89 | 90 => a 90 | 91 => a 91 | 92 => a 92 | 93 => a 93 | 94 => a 94 | 95 => a 95
  | 96 => a 96 | 97 => a 97 | 98 => a 98 | 99 => a 99 | 100 => a 100 | 101 => a 101 | 102 => a 102 | 103 => a 103
  | 104 => a 104 | 105 => a 105 | 106 => a 106 | 107 => a 107 | 108 => a 108 | 109 => a 109 | 110 => a 110 | 111 => a 111
  | 112 => a 112 | 113 => a 113 | 114 => a 114 | 115 => a 115 | 116 => a 116 | 117 => a 117 | 118 => a 118 | 119 => a 119
  | 120 => a 120 | 121 => a 121 | 122 => a 122 | 123 => a 123 | 124 => a 124 | 125 => a 125 | 126 => a 126 | 127 => a 127
  | _ => 0#32

/-- It is the value of `a` there. -/
theorem digit_eq (a : ℕ → BitVec 32) (d : ℕ) (h : d < 128) : digit a d = a d := by
  interval_cases d <;> rfl

/-- 16384 words by their index's last two digits in base 128, from the word `f` gives at an offset into a longer table. -/
def page (f : ℕ → BitVec 32) (o : ℕ) (n : ℕ) : BitVec 32 :=
  digit (fun p => digit (fun q => f (o + 128 * p + q)) (n % 128)) (n / 128 % 128)

/-- A page is the table's own part. -/
theorem page_eq (f : ℕ → BitVec 32) (k n : ℕ) (h : n / 16384 = k) : page f (16384 * k) n = f n := by
  unfold page
  rw [digit_eq _ _ (Nat.mod_lt _ (by norm_num)), digit_eq _ _ (Nat.mod_lt _ (by norm_num))]
  congr 1; omega

/-- 128 words by their index's last digit in base 128, from the word `f` gives at an offset into a longer table. -/
def line (f : ℕ → BitVec 32) (o : ℕ) (n : ℕ) : BitVec 32 := digit (fun q => f (o + q)) (n % 128)

/-- A line is the table's own part. -/
theorem line_eq (f : ℕ → BitVec 32) (k n : ℕ) (h : n / 128 = k) : line f (128 * k) n = f n := by
  unfold line
  rw [digit_eq _ _ (Nat.mod_lt _ (by norm_num))]
  congr 1; omega

/-- The word at index `n` of the plain 256 by 256 Hadamard table: plus or minus 1/32. -/
def plainWord (n : ℕ) : BitVec 32 :=
  word 0x3D000000#32 0xBD000000#32 (parities.testBit (n / 256 &&& n % 256))

/-- The word at index `n` of a table of signs: one or minus one. -/
def signWord (n : ℕ) : BitVec 32 := word 0x3F800000#32 0xBF800000#32 (coin n)

end Cert.Rotor

end
-- ==== Proof.Equation.lean ====
/- The equation between the two algorithms, over the real numbers: the rotation in four blocks of 256, with the bias and the
   quantiser's middle folded in, against the rotation by the whole matrix of side 1024. No program is mentioned here. -/
module

public import proofs.«01_k».proof.Proof.Hadamard
public import proofs.«01_k».proof.Proof.Tables
public import Idealize.ShloMosaic.PureOps.Ideal
public import Mathlib.Tactic.NormNum
public import Mathlib.Algebra.BigOperators.Ring.Finset

@[expose] public section

noncomputable section

namespace Cert.Rotor

open Idealize.ShloMosaic Finset

/-- One row of the product with the weights. -/
def lin (x : ℕ → ℝ) (W : ℕ → ℕ → ℝ) (n : ℕ) : ℝ := ∑ k : Fin 768, x k * W k n

/-- The quantiser's level of a number: rounded to the nearest integer, ties to even, and kept between 0 and 15. -/
def level (z : ℝ) : ℝ := min 15 (max 0 (Ideal.roundHalfEven z : ℝ))

/-! ### The plain algorithm -/

/-- Entry `J` of the rotated row: the row padded with zeros to 1024 features, times the random signs, times the matrix. -/
def rotated (y : ℕ → ℝ) (J : ℕ) : ℝ :=
  ∑ I : Fin 1024, ((if I.val < 768 then y I else 0) * sg (coin I)) * (sg (had 10 I J) / 32)

/-- Entry `C` of the row rotated, quantised to levels, and rotated back. -/
def plainOut (y : ℕ → ℝ) (C : ℕ) : ℝ :=
  (∑ J : Fin 1024, (level (rotated y J + 7.5) - 7.5) * (sg (had 10 J C) / 32)) * sg (coin C)

/-! ### The algorithm in blocks -/

/-- Block `a` of a row times the signed block matrix. -/
def part (y : ℕ → ℝ) (a g : ℕ) : ℝ :=
  ∑ i : Fin 256, y (256 * a + i) * (sg (xor (coin (256 * a + i)) (had 8 i g)) / 32)

/-- The three blocks combined with the signs of result block `s`. -/
def mix (s : ℕ) (y : ℕ → ℝ) (g : ℕ) : ℝ :=
  part y 0 g + sg (had 2 1 s) * part y 1 g + sg (had 2 2 s) * part y 2 g

/-- The levels of block `s`, the bias row `b` and the middle of the levels added after the product. -/
def blockLevel (y b : ℕ → ℝ) (s g : ℕ) : ℝ := level (mix s y g + (mix s b g + 7.5))

/-- Block `s` of the levels times the unsigned block matrix. -/
def back (y b : ℕ → ℝ) (s j : ℕ) : ℝ := ∑ g : Fin 256, blockLevel y b s g * (sg (had 8 g j) / 32)

/-- Entry `j` of block `a` of the result: the four blocks combined, the middle's contribution taken off, the signs put on. -/
def blockOut (y b : ℕ → ℝ) (a j : ℕ) : ℝ :=
  ((∑ s : Fin 4, sg (had 2 s a) * back y b s j) - (if a = 0 ∧ j = 0 then 240 else 0)) * sg (coin (256 * a + j))

/-! ### The two agree -/

/-- A sum over 1024 features is a sum over four blocks of 256. -/
theorem sum_blocks (f : ℕ → ℝ) : ∑ I : Fin 1024, f I = ∑ a : Fin 4, ∑ i : Fin 256, f (256 * a + i) := by
  rw [← Finset.sum_product', ← Equiv.sum_comp (finProdFinEquiv : Fin 4 × Fin 256 ≃ Fin 1024)]
  refine Finset.sum_congr rfl fun p _ => congrArg f ?_
  simp [finProdFinEquiv, add_comm]

theorem part_add (y b : ℕ → ℝ) (a g : ℕ) : part (fun n => y n + b n) a g = part y a g + part b a g := by
  simp only [part, add_mul, Finset.sum_add_distrib]

/-- The rotated row, block by block. -/
theorem rotated_block (y : ℕ → ℝ) (s g : ℕ) (hg : g < 256) : rotated y (256 * s + g) = mix s y g := by
  have h : ∀ a : Fin 4, ∀ i : Fin 256,
      ((if 256 * a.val + i.val < 768 then y (256 * a + i) else 0) * sg (coin (256 * a + i))) * (sg (had 10 (256 * a + i) (256 * s + g)) / 32)
        = (if a.val < 3 then sg (had 2 a s) else 0) * (y (256 * a + i) * (sg (xor (coin (256 * a + i)) (had 8 i g)) / 32)) := fun a i => by
    rw [had_blocks a i s g i.isLt hg, sg_xor, sg_xor]
    have hi := i.isLt
    by_cases ha : a.val < 3
    · rw [if_pos ha, if_pos (by omega)]; ring
    · rw [if_neg ha, if_neg (by omega)]; ring
  rw [rotated, sum_blocks fun I => ((if I < 768 then y I else 0) * sg (coin I)) * (sg (had 10 I (256 * s + g)) / 32)]
  simp only [h, ← Finset.mul_sum]
  rw [Fin.sum_univ_four]
  have h0 : sg (had 2 0 s) = 1 := by simp [had, par, sg]
  simp [mix, part, h0]

theorem sum_signs (k j : ℕ) (n : ℕ) (hn : n = 2 ^ k) (hj : j < n) :
    ∑ g : Fin n, sg (had k g j) = if j = 0 then (n : ℝ) else 0 := by
  subst hn
  rw [Fin.sum_univ_eq_sum_range (fun g => sg (had k g j)), sum_had, Nat.mod_eq_of_lt hj]
  push_cast; rfl

/-- The middle of the levels, rotated back: it lands in the first entry alone, as 240. -/
theorem middle_back (a j : ℕ) (ha : a < 4) (hj : j < 256) :
    ∑ s : Fin 4, ∑ g : Fin 256, (7.5 : ℝ) * (sg (had 2 s a) * (sg (had 8 g j) / 32)) = if a = 0 ∧ j = 0 then 240 else 0 := by
  simp only [← Finset.mul_sum, ← Finset.sum_mul, ← Finset.sum_div]
  rw [sum_signs 2 a 4 rfl ha, sum_signs 8 j 256 rfl hj]
  by_cases h : a = 0 <;> by_cases h' : j = 0 <;> simp [h, h'] <;> norm_num

/-- The block algorithm on `y` and `b` is the plain algorithm on their sum. -/
theorem blockOut_eq (y b : ℕ → ℝ) (a j : ℕ) (ha : a < 3) (hj : j < 256) :
    blockOut y b a j = plainOut (fun n => y n + b n) (256 * a + j) := by
  have hq : ∀ s g : ℕ, g < 256 → level (rotated (fun n => y n + b n) (256 * s + g) + 7.5) = blockLevel y b s g := fun s g hg => by
    rw [rotated_block _ s g hg, blockLevel]; congr 1; simp only [mix, part_add]; ring
  rw [blockOut, plainOut, sum_blocks fun J => (level (rotated (fun n => y n + b n) J + 7.5) - 7.5) * (sg (had 10 J (256 * a + j)) / 32),
    ← middle_back a j (by omega) hj]
  congr 1
  rw [← Finset.sum_sub_distrib]
  refine Finset.sum_congr rfl fun s _ => ?_
  rw [back, Finset.mul_sum, ← Finset.sum_sub_distrib]
  refine Finset.sum_congr rfl fun g _ => ?_
  rw [hq s g g.isLt, had_blocks s g a j g.isLt hj, sg_xor]
  ring

end Cert.Rotor

end
-- ==== Proof.Words.lean ====
/- The real numbers that the constants of the two programs stand for. -/
module

public import proofs.«01_k».proof.Proof.Hadamard
public import proofs.«01_k».proof.Proof.Tables
public import Idealize.ShloMosaic.PureOps.Ideal
public import Mathlib.Tactic.NormNum

@[expose] public section

noncomputable section

namespace Cert.Rotor

open Idealize.ShloMosaic

/-- The constant fifteen, the largest level of the quantiser. -/
theorem word_fifteen : Ideal.ofBits .f32 0x41700000#32 = ((15 : ℝ) : EReal) := by
  simp [Ideal.ofBits, Ideal.ieee, -EReal.coe_mul]; norm_num

/-- The constant seven and a half, the middle of the quantiser's levels. -/
theorem word_half : Ideal.ofBits .f32 0x40F00000#32 = ((7.5 : ℝ) : EReal) := by
  simp [Ideal.ofBits, Ideal.ieee, -EReal.coe_mul]; norm_num

/-- The constant 1024, the side of the rotation matrix. -/
theorem word_side : Ideal.ofBits .f32 0x44800000#32 = ((1024 : ℝ) : EReal) := by
  simp [Ideal.ofBits, Ideal.ieee, -EReal.coe_mul]; norm_num

/-- The constant 240, the sum of a column of 7.5 times the first column of the matrix. -/
theorem word_sum : Ideal.ofBits .f32 0x43700000#32 = ((240 : ℝ) : EReal) := by
  simp [Ideal.ofBits, Ideal.ieee, -EReal.coe_mul]; norm_num

/-- The constant zero. -/
theorem word_zero : Ideal.ofBits .f32 0#32 = ((0 : ℝ) : EReal) := by
  simp [Ideal.ofBits, Ideal.ieee, -EReal.coe_mul]

/-- The constant one. -/
theorem word_one : Ideal.ofBits .f32 0x3F800000#32 = ((1 : ℝ) : EReal) := by
  simp [Ideal.ofBits, Ideal.ieee, -EReal.coe_mul]; norm_num

/-- The constant minus one. -/
theorem word_neg_one : Ideal.ofBits .f32 0xBF800000#32 = ((-1 : ℝ) : EReal) := by
  simp [Ideal.ofBits, Ideal.ieee, -EReal.coe_mul]; norm_num

/-- The constant one over thirty-two. -/
theorem word_unit : Ideal.ofBits .f32 0x3D000000#32 = ((1 / 32 : ℝ) : EReal) := by
  simp [Ideal.ofBits, Ideal.ieee, -EReal.coe_mul]; norm_num

/-- The constant minus one over thirty-two. -/
theorem word_neg_unit : Ideal.ofBits .f32 0xBD000000#32 = ((-(1 / 32) : ℝ) : EReal) := by
  simp [Ideal.ofBits, Ideal.ieee, -EReal.coe_mul]; norm_num

/-- A one with a sign bit is the sign. -/
theorem ofBits_sign (b : Bool) :
    Ideal.ofBits .f32 (word 0x3F800000#32 0xBF800000#32 b) = ((sg b : ℝ) : EReal) := by
  cases b
  · exact word_one.trans (by simp [sg])
  · exact word_neg_one.trans (by simp [sg])

/-- One over thirty-two with a sign bit is the sign over thirty-two. -/
theorem ofBits_unit (b : Bool) :
    Ideal.ofBits .f32 (word 0x3D000000#32 0xBD000000#32 b) = ((sg b / 32 : ℝ) : EReal) := by
  cases b
  · exact word_unit.trans (by simp [sg])
  · exact word_neg_unit.trans (by simp [sg]; norm_num)

/-- The correction's word: 240 where the bit is set, zero elsewhere. -/
theorem ofBits_sum (b : Bool) :
    Ideal.ofBits .f32 (word 0#32 0x43700000#32 b) = (((if b then 240 else 0) : ℝ) : EReal) := by
  cases b
  · exact word_zero.trans (by simp)
  · exact word_sum.trans (by simp)

end Cert.Rotor

end
-- ==== Proof.Reals.lean ====
/- Extended reals that are real numbers: sums of them and the quantiser's level. -/
module

public import proofs.«01_k».proof.Proof.Equation
public import proofs.«01_k».proof.Proof.Words

@[expose] public section

noncomputable section

namespace Cert.Rotor

open Idealize.ShloMosaic

/-- A sum of real numbers, taken among the extended reals, is their sum. -/
theorem coe_sum {n : ℕ} (f : Fin n → ℝ) : ∑ k, ((f k : ℝ) : EReal) = ((∑ k, f k : ℝ) : EReal) :=
  (map_sum (⟨⟨fun r : ℝ => (r : EReal), EReal.coe_zero⟩, EReal.coe_add⟩ : ℝ →+ EReal) f Finset.univ).symm

/-- A sum of products of real numbers, taken among the extended reals. -/
theorem coe_sum_mul {n : ℕ} {u v : Fin n → EReal} (f g : Fin n → ℝ) (hu : ∀ k, u k = (f k : EReal))
    (hv : ∀ k, v k = (g k : EReal)) : ∑ k, u k * v k = ((∑ k, f k * g k : ℝ) : EReal) := by
  rw [← coe_sum]
  exact Finset.sum_congr rfl fun k _ => by rw [hu, hv, EReal.coe_mul]

/-- The quantiser's level, taken among the extended reals. -/
theorem coe_level (z : ℝ) :
    min (Ideal.ofBits .f32 0x41700000#32) (max 0
      (Ideal.liftRound Ideal.roundHalfEven (z : EReal))) = ((level z : ℝ) : EReal) := by
  rw [word_fifteen]
  show min ((15 : ℝ) : EReal) (max ((0 : ℝ) : EReal) ((Ideal.roundHalfEven z : ℝ) : EReal)) = _
  rw [level, EReal.coe_strictMono.monotone.map_min, EReal.coe_strictMono.monotone.map_max]

/-- Adding a number and taking off what was added gives it back. -/
theorem straight_through (y d : ℝ) : (y : EReal) + ((d : EReal) - (y : EReal)) = (d : EReal) := by
  rw [← EReal.coe_sub, ← EReal.coe_add]; congr 1; ring

end Cert.Rotor

end
-- ==== Proof.RefHadamard.lean ====
/- The reference's rotation matrix: ten doublings of the one-by-one matrix of a one, divided by the square root of 1024,
   read at a row and a column. -/
module

public import proofs.«01_k».proof.Proof.Hadamard
public import proofs.«01_k».proof.Proof.Words
public import proofs.«01_k».proof.Proof.Gen.ReferenceIdeal.Run
public import Idealize.ShloMosaic.Lib.Pointwise
public import Idealize.ShloMosaic.Lib.IdealHost
public import Mathlib.Tactic.NormNum

@[expose] public section

noncomputable section

namespace Cert.Rotor

open Idealize.ShloMosaic

/-- A square matrix whose entries are the Hadamard signs of size `n = 2 ^ k`. -/
def IsSigns (n k : ℕ) (A : FVec Ideal ⟨2, ![n, n]⟩ .f32) : Prop :=
  ∀ i j : Fin n, A (ix2 i j) = ((sg (had k i j) : ℝ) : EReal)

/-- Dropping the leading digit keeps the lower ones. -/
theorem mod_drop {n k j : ℕ} (hn : n = 2 ^ k) (hge : n ≤ j) : (j - n) % 2 ^ k = j % 2 ^ k := by
  subst hn; exact (Nat.mod_eq_sub_mod hge).symm

/-- Two copies side by side, or a copy beside its negation, read at a row and a column: the sign of the right copy is the
    one of the column with its leading digit dropped. -/
theorem beside_apply {n m k : ℕ} (hn : n = 2 ^ k) (hm : m = 2 * n) (A B : FVec Ideal ⟨2, ![n, n]⟩ .f32)
    (hA : IsSigns n k A) (s : Bool) (hB : ∀ i j : Fin n, B (ix2 i j) = ((sg (xor s (had k i j)) : ℝ) : EReal))
    (h : Shape.Concatenates [⟨2, ![n, n]⟩, ⟨2, ![n, n]⟩] (⟨2, ![n, m]⟩ : Shape) 1) (i : Fin n) (j : Fin m) :
    concatenate (⟨2, ![n, m]⟩ : Shape) 1 [⟨⟨2, ![n, n]⟩, A⟩, ⟨⟨2, ![n, n]⟩, B⟩] h (ix2 i j)
      = ((sg (xor (s && j.val.testBit k) (had k i j)) : ℝ) : EReal) := by
  have hj : j.val < 2 ^ (k + 1) := by have := j.isLt; rw [pow_succ]; omega
  rcases lt_or_ge j.val n with hlt | hge
  · rw [concatenate_pair_apply_left (t := ⟨2, ![n, m]⟩) (s₁ := ⟨2, ![n, n]⟩) (s₂ := ⟨2, ![n, n]⟩) 1 A B h (ix2 i j) rfl
        (ix2 i ⟨j.val, hlt⟩) (fun b => by match b with | ⟨0, _⟩ => rfl | ⟨1, _⟩ => rfl), hA]
    rw [testBit_half _ _ hj, decide_eq_false (by omega)]
    simp
  · have hr : j.val - n < n := by have := j.isLt; omega
    rw [concatenate_pair_apply_right (t := ⟨2, ![n, m]⟩) (s₁ := ⟨2, ![n, n]⟩) (s₂ := ⟨2, ![n, n]⟩) 1 A B h (ix2 i j) rfl rfl
        (ix2 i ⟨j.val - n, hr⟩)
        (fun b hb => by match b with | ⟨0, _⟩ => rfl | ⟨1, _⟩ => exact absurd rfl hb)
        (by show j.val - n + n = j.val; omega), hB]
    rw [testBit_half _ _ hj, decide_eq_true (by omega)]
    rw [had_congr k (i := i.val) (j := j.val - n) rfl (j' := j.val)
      (mod_drop hn hge)]
    simp

/-- One doubling: the matrix twice above, the matrix and its negation below, has the signs of the next size. -/
theorem doubled {n m k : ℕ} (hn : n = 2 ^ k) (hm : m = 2 * n) (A : FVec Ideal ⟨2, ![n, n]⟩ .f32) (hA : IsSigns n k A)
    (h h' : Shape.Concatenates [⟨2, ![n, n]⟩, ⟨2, ![n, n]⟩] (⟨2, ![n, m]⟩ : Shape) 1)
    (h2 : Shape.Concatenates [⟨2, ![n, m]⟩, ⟨2, ![n, m]⟩] (⟨2, ![m, m]⟩ : Shape) 0) :
    IsSigns m (k + 1) (concatenate (⟨2, ![m, m]⟩ : Shape) 0
      [⟨⟨2, ![n, m]⟩, concatenate (⟨2, ![n, m]⟩ : Shape) 1 [⟨⟨2, ![n, n]⟩, A⟩, ⟨⟨2, ![n, n]⟩, A⟩] h⟩,
       ⟨⟨2, ![n, m]⟩, concatenate (⟨2, ![n, m]⟩ : Shape) 1 [⟨⟨2, ![n, n]⟩, A⟩, ⟨⟨2, ![n, n]⟩, Host.negf A⟩] h'⟩] h2) := by
  intro i j
  have hi : i.val < 2 ^ (k + 1) := by have := i.isLt; rw [pow_succ]; omega
  rw [had_succ]
  rcases lt_or_ge i.val n with hlt | hge
  · rw [concatenate_pair_apply_left (t := ⟨2, ![m, m]⟩) (s₁ := ⟨2, ![n, m]⟩) (s₂ := ⟨2, ![n, m]⟩) 0 _ _ h2 (ix2 i j) rfl
        (ix2 ⟨i.val, hlt⟩ j) (fun b => by match b with | ⟨0, _⟩ => rfl | ⟨1, _⟩ => rfl),
      beside_apply hn hm A A hA false (fun a b => by rw [hA]; simp)]
    rw [testBit_half _ _ hi, decide_eq_false (by omega)]
  · have hr : i.val - n < n := by have := i.isLt; omega
    rw [concatenate_pair_apply_right (t := ⟨2, ![m, m]⟩) (s₁ := ⟨2, ![n, m]⟩) (s₂ := ⟨2, ![n, m]⟩) 0 _ _ h2 (ix2 i j) rfl rfl
        (ix2 ⟨i.val - n, hr⟩ j)
        (fun b hb => by match b with | ⟨0, _⟩ => exact absurd rfl hb | ⟨1, _⟩ => rfl)
        (by show i.val - n + n = i.val; omega),
      beside_apply hn hm A (Host.negf A) hA true (fun a b => by
        show -(A (ix2 a b)) = _
        rw [hA, sg_xor, ← EReal.coe_neg]; simp [sg])]
    rw [testBit_half _ _ hi, decide_eq_true (by omega)]
    rw [had_congr k (i := i.val - n) (j := j.val) (i' := i.val) (j' := j.val)
      (mod_drop hn hge) rfl]

/-- The square root the reference divides by is 32. -/
theorem sqrt_side : Ideal.sqrt (Ideal.ofBits .f32 0x44800000#32) = ((32 : ℝ) : EReal) := by
  rw [word_side, Ideal.sqrt_coe, if_neg (by norm_num), show (1024 : ℝ) = 32 ^ 2 by norm_num, Real.sqrt_sq (by norm_num)]

open Cert.ReferenceIdeal Cert.ReferenceIdeal.Value in
/-- The reference's matrix at row `I` and column `J`: the Hadamard sign over 32. -/
theorem rotation_apply (V : Idealize.ShloMosaic.Valuation τ sig (Elt Ideal)) (I J : Fin 1024) :
    res_main_v23 V (ix2 I J) = ((sg (had 10 I J) / 32 : ℝ) : EReal) := by
  have h0 : IsSigns 1 0 (res_main_v0 V) := fun i j => by
    show Ideal.ofBits .f32 0x3F800000#32 = _
    rw [word_one]; simp [had, par, sg]
  have h1 : IsSigns 2 1 (res_main_v2 V) := doubled (k := 0) rfl rfl _ h0 _ _ _
  have h2 : IsSigns 4 2 (res_main_v4 V) := doubled (k := 1) rfl rfl _ h1 _ _ _
  have h3 : IsSigns 8 3 (res_main_v6 V) := doubled (k := 2) rfl rfl _ h2 _ _ _
  have h4 : IsSigns 16 4 (res_main_v8 V) := doubled (k := 3) rfl rfl _ h3 _ _ _
  have h5 : IsSigns 32 5 (res_main_v10 V) := doubled (k := 4) rfl rfl _ h4 _ _ _
  have h6 : IsSigns 64 6 (res_main_v12 V) := doubled (k := 5) rfl rfl _ h5 _ _ _
  have h7 : IsSigns 128 7 (res_main_v14 V) := doubled (k := 6) rfl rfl _ h6 _ _ _
  have h8 : IsSigns 256 8 (res_main_v16 V) := doubled (k := 7) rfl rfl _ h7 _ _ _
  have h9 : IsSigns 512 9 (res_main_v18 V) := doubled (k := 8) rfl rfl _ h8 _ _ _
  have h10 := doubled (n := 512) (k := 9) (m := 1024) rfl rfl _ h9
    Cert.ReferenceIdeal.Gen.concatenates_S512x512_S512x512_S512x1024_d1
    Cert.ReferenceIdeal.Gen.concatenates_S512x512_S512x512_S512x1024_d1
    Cert.ReferenceIdeal.Gen.concatenates_S512x1024_S512x1024_S1024x1024_d0
  refine (congrArg₂ Ideal.div (h10 I J) sqrt_side).trans ?_
  rw [Ideal.div_coe (by norm_num), ← EReal.coe_mul]
  congr 1
  ring

end Cert.Rotor

end
-- ==== Proof.ReferenceTables.lean ====
/- The reference's sign table in closed form: the same random signs. -/
module

public import proofs.«01_k».proof.ReferenceIdeal
public import proofs.«01_k».proof.Proof.Tables
public import Idealize.ShloMosaic.Lib.Tactic

@[expose] public section

noncomputable section

namespace Cert.Rotor

open Cert.ReferenceIdeal

/-- The 8 lines of the reference's sign table. -/
theorem reference_lines : lit0t = fun n => match n / 128 with
    | 0 => line signWord (128 * 0) n
    | 1 => line signWord (128 * 1) n
    | 2 => line signWord (128 * 2) n
    | 3 => line signWord (128 * 3) n
    | 4 => line signWord (128 * 4) n
    | 5 => line signWord (128 * 5) n
    | 6 => line signWord (128 * 6) n
    | 7 => line signWord (128 * 7) n
    | _ => 0#32 := by sl_kernel_rfl

/-- The reference's sign table at feature `n`. -/
theorem reference_signs (n : Fin 1024) : lit0 n = word 0x3F800000#32 0xBF800000#32 (coin n) := by
  obtain ⟨n, hn⟩ := n
  show lit0t n = _
  rw [reference_lines]
  change _ = signWord n
  obtain ⟨k, hk⟩ : ∃ k, n / 128 = k := ⟨_, rfl⟩
  have hk8 : k < 8 := by omega
  beta_reduce; rw [hk]
  interval_cases k <;> exact line_eq signWord _ n hk

end Cert.Rotor

end
-- ==== Proof.RefValue.lean ====
/- The reference's result, read at an index, as a real number. -/
module

public import proofs.«01_k».proof.Proof.Reals
public import proofs.«01_k».proof.Proof.RefHadamard
public import proofs.«01_k».proof.Proof.ReferenceTables

@[expose] public section

noncomputable section

namespace Cert.Rotor

open Idealize.ShloMosaic Cert.ReferenceIdeal Cert.ReferenceIdeal.Gen Cert.ReferenceIdeal.Value

/-- The reference's random signs at a feature. -/
theorem signs_apply (V : Valuation τ sig (Elt Ideal)) (I : Fin 1024) :
    res_main_cst V (ix1 I) = ((sg (coin I) : ℝ) : EReal) := by
  have e : S1024.rowMajor (ix1 I) = I := Fin.ext (Shape.rowMajor_val_one (d := ![1024]) (ix1 I))
  show Ideal.ofBits .f32 (lit0 (S1024.rowMajor (ix1 I))) = _
  rw [e, reference_signs, ofBits_sign]

/-- The reference's padded rows: the product with the weights plus the bias in the first 768 features, zero in the others. -/
theorem padded_apply (V : Valuation τ sig (Elt Ideal)) (u : Fin 16) (t : Fin 1024) (x b : ℕ → ℝ) (W : ℕ → ℕ → ℝ)
    (hx : ∀ k : Fin 768, V (Proc.devRef .tc main_arg0) (ix3 u t k) = ((x k : ℝ) : EReal))
    (hW : ∀ k n : Fin 768, V (Proc.devRef .tc main_arg1) (ix2 k n) = ((W k n : ℝ) : EReal))
    (hb : ∀ n : Fin 768, V (Proc.devRef .tc main_arg2) (ix1 n) = ((b n : ℝ) : EReal)) (I : Fin 1024) :
    res_main_v28 V (ix3 u t I) = (((if I.val < 768 then lin x W I + b I else 0) : ℝ) : EReal) := by
  pointwise [res_main_v28]
  by_cases h : I.val < 768
  · rw [dif_pos h, if_pos h, coe_sum_mul (fun k : Fin 768 => x k) (fun k : Fin 768 => W k I) hx (fun k => hW k ⟨I, h⟩),
      hb ⟨I, h⟩, ← EReal.coe_add, lin]
  · rw [dif_neg h, if_neg h]
    show (((0#32).toInt : ℝ) : EReal) = _
    simp

/-- The reference's quantiser on rotated rows, as printed, over the padded rows, the signs and the matrix. -/
def rotateAndQuantise (Y : FVec Ideal S16x1024x1024 .f32) (S : FVec Ideal S1024 .f32) (H : FVec Ideal S1024x1024 .f32) :
    FVec Ideal S16x1024x1024 .f32 :=
  minimumf (broadcastInDim S16x1024x1024 ![] bcast_S_S16x1024x1024 (id (constant S_ .f32 0x41700000#32)))
    (maximumf (broadcastInDim S16x1024x1024 ![] bcast_S_S16x1024x1024 (id (constant S_ .f32 0x00000000#32)))
      (Host.roundeven (addf (Host.divf (Host.dotGeneral dot_S16x1024x1024_S1024x1024_S16x1024x1024_2_0_01_1_n_n none
          (mulf Y (broadcastInDim S16x1024x1024 ![0, 1, 2] bcast_S1x1x1024_S16x1024x1024_0_1_2
            (broadcastInDim S1x1x1024 ![2] bcast_S1024_S1x1x1024_2 S))) H)
          (broadcastInDim S16x1024x1024 ![] bcast_S_S16x1024x1024 (constant S_ .f32 0x3F800000#32)))
        (broadcastInDim S16x1024x1024 ![] bcast_S_S16x1024x1024 (constant S_ .f32 0x40F00000#32)))))

/-- One row of the quantiser's levels: the rotated row, plus 7.5, rounded and clipped. -/
theorem levels_apply (Y : FVec Ideal S16x1024x1024 .f32) (S : FVec Ideal S1024 .f32) (H : FVec Ideal S1024x1024 .f32)
    (u : Fin 16) (t : Fin 1024) (y : ℕ → ℝ)
    (hY : ∀ I : Fin 1024, Y (ix3 u t I) = (((if I.val < 768 then y I else 0) : ℝ) : EReal))
    (hS : ∀ I : Fin 1024, S (ix1 I) = ((sg (coin I) : ℝ) : EReal))
    (hH : ∀ I J : Fin 1024, H (ix2 I J) = ((sg (had 10 I J) / 32 : ℝ) : EReal)) (J : Fin 1024) :
    rotateAndQuantise Y S H (ix3 u t J) = ((level (rotated y J + 7.5) : ℝ) : EReal) := by
  pointwise [rotateAndQuantise, id]
  rw [coe_sum_mul (fun I : Fin 1024 => (if I.val < 768 then y I else 0) * sg (coin I)) (fun I : Fin 1024 => sg (had 10 I J) / 32)
      (fun I => by rw [hY, hS, EReal.coe_mul]) (fun I => hH I J),
    ← EReal.coe_one, Ideal.div_coe one_ne_zero, ← EReal.coe_mul, word_half, ← EReal.coe_add, ← coe_level, rotated]
  congr 4
  rw [div_one, mul_one]

/-- The reference's last steps, as printed: the levels centred, rotated back by the same matrix, the signs put on again, and
    the result carried past the padded rows by adding and taking off. -/
def rotateBack (Y Q : FVec Ideal S16x1024x1024 .f32) (S : FVec Ideal S1024 .f32) (H : FVec Ideal S1024x1024 .f32) :
    FVec Ideal S16x1024x768 .f32 :=
  extractStridedSlice S16x1024x768 ![0, 0, 0] (addf Y (subf (mulf (Host.dotGeneral
      dot_S16x1024x1024_S1024x1024_S16x1024x1024_2_0_01_1_n_n none
      (mulf (subf Q (broadcastInDim S16x1024x1024 ![] bcast_S_S16x1024x1024 (constant S_ .f32 0x40F00000#32)))
        (broadcastInDim S16x1024x1024 ![] bcast_S_S16x1024x1024 (constant S_ .f32 0x3F800000#32))) H)
    (broadcastInDim S16x1024x1024 ![0, 1, 2] bcast_S1x1x1024_S16x1024x1024_0_1_2
      (broadcastInDim S1x1x1024 ![2] bcast_S1024_S1x1x1024_2 S))) Y)) slices_S16x1024x1024_S16x1024x768_0_0_0

/-- One row of the result: the plain algorithm's. -/
theorem restored_apply (Y Q : FVec Ideal S16x1024x1024 .f32) (S : FVec Ideal S1024 .f32) (H : FVec Ideal S1024x1024 .f32)
    (u : Fin 16) (t : Fin 1024) (y : ℕ → ℝ)
    (hY : ∀ I : Fin 1024, Y (ix3 u t I) = (((if I.val < 768 then y I else 0) : ℝ) : EReal))
    (hQ : ∀ J : Fin 1024, Q (ix3 u t J) = ((level (rotated y J + 7.5) : ℝ) : EReal))
    (hS : ∀ I : Fin 1024, S (ix1 I) = ((sg (coin I) : ℝ) : EReal))
    (hH : ∀ I J : Fin 1024, H (ix2 I J) = ((sg (had 10 I J) / 32 : ℝ) : EReal)) (C : Fin 768) :
    rotateBack Y Q S H (ix3 u t C) = ((plainOut y C : ℝ) : EReal) := by
  pointwise [rotateBack]
  rw [coe_sum_mul (fun J : Fin 1024 => level (rotated y J + 7.5) - 7.5) (fun J : Fin 1024 => sg (had 10 J C) / 32)
      (fun J => by rw [hQ, word_half, ← EReal.coe_sub]) (fun J => hH J ⟨C, by omega⟩), hS, ← EReal.coe_mul, hY,
    straight_through, plainOut]

/-- The reference's printed result, as one function of the arguments' contents. -/
def reference (V : Valuation τ sig (Elt Ideal)) : FVec Ideal S16x1024x768 .f32 :=
  rotateBack (res_main_v28 V) (rotateAndQuantise (res_main_v28 V) (res_main_cst V) (res_main_v23 V)) (res_main_cst V)
    (res_main_v23 V)

/-- The reference's result at an index, its arguments being real numbers: the plain algorithm on the row's product with
    the weights plus the bias. -/
theorem reference_apply (V : Valuation τ sig (Elt Ideal)) (u : Fin 16) (t : Fin 1024) (x b : ℕ → ℝ) (W : ℕ → ℕ → ℝ)
    (hx : ∀ k : Fin 768, V (Proc.devRef .tc main_arg0) (ix3 u t k) = ((x k : ℝ) : EReal))
    (hW : ∀ k n : Fin 768, V (Proc.devRef .tc main_arg1) (ix2 k n) = ((W k n : ℝ) : EReal))
    (hb : ∀ n : Fin 768, V (Proc.devRef .tc main_arg2) (ix1 n) = ((b n : ℝ) : EReal)) (C : Fin 768) :
    reference V (ix3 u t C) = ((plainOut (fun n => lin x W n + b n) C : ℝ) : EReal) :=
  have hY := padded_apply V u t x b W hx hW hb
  restored_apply _ _ _ _ u t _ hY (levels_apply _ _ _ u t _ hY (signs_apply V) (rotation_apply V)) (signs_apply V)
    (rotation_apply V) C

/-- The reference's run: it ends with the printed result and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = reference (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Rotor

end
-- ==== Proof.KernelParts.lean ====
/- What one grid point of the kernel computes, product by product, as real numbers: each printed value of the body at a row
   and a column, given the blocks it reads there. -/
module

public import proofs.«01_k».proof.Proof.Reals
public import proofs.«01_k».proof.Proof.Gen.KernelIdeal.Skeleton
public import Idealize.ShloMosaic.Lib.Pointwise

@[expose] public section

set_option maxRecDepth 16384

noncomputable section

namespace Cert.Rotor

open Idealize.ShloMosaic Cert.KernelIdeal Cert.KernelIdeal.Gen

/-- A signed block matrix as loaded: slice `a` of the table. -/
def IsSigned (a : ℕ) (h : Vec Ideal S1x256x256 .bf16) : Prop :=
  ∀ i g : Fin 256, h (ix3 0 i g) = ((sg (xor (coin (256 * a + i)) (had 8 i g)) / 32 : ℝ) : EReal)

/-- The unsigned block matrix. -/
def IsPlain (h : Vec Ideal S256x256 .bf16) : Prop :=
  ∀ g j : Fin 256, h (ix2 g j) = ((sg (had 8 g j) / 32 : ℝ) : EReal)

/-- The row of signs of block `a`, as loaded. -/
def IsCoins (a : ℕ) (v : Vec Ideal S1x1x256 .f32) : Prop :=
  ∀ j : Fin 256, v (ix3 0 0 j) = ((sg (coin (256 * a + j)) : ℝ) : EReal)

/-- The weights' block. -/
def IsWeights (W : ℕ → ℕ → ℝ) (w : Vec Ideal S768x768 .bf16) : Prop :=
  ∀ k n : Fin 768, w (ix2 k n) = ((W k n : ℝ) : EReal)

/-- Row `r` of the input's block. -/
def IsRow (x : ℕ → ℝ) (r : Fin 2048) (v : Vec Ideal S2048x768 .f32) : Prop :=
  ∀ k : Fin 768, v (ix2 r k) = ((x k : ℝ) : EReal)

/-- The bias row. -/
def IsBias (b : ℕ → ℝ) (v : Vec Ideal S1x768 .f32) : Prop := ∀ n : Fin 768, v (ix2 0 n) = ((b n : ℝ) : EReal)

section Products

variable {x : ℕ → ℝ} {W : ℕ → ℕ → ℝ} {r : Fin 2048} {v3 : Vec Ideal S2048x768 .f32} {v5 : Vec Ideal S768x768 .bf16}
  (hx : IsRow x r v3) (hW : IsWeights W v5)

include hx hW

/-- The row times the weights. -/
theorem lin_apply (n : Fin 768) : k0_pay17 v3 v5 (ix2 r n) = ((lin x W n : ℝ) : EReal) := by
  pointwise [k0_pay17]
  exact coe_sum_mul (fun k : Fin 768 => x k) (fun k : Fin 768 => W k n) hx (fun k => hW k n)

/-- The first block of the row times its signed matrix. -/
theorem part0_apply {h : Vec Ideal S1x256x256 .bf16} (hh : IsSigned 0 h) (g : Fin 256) :
    k0_pay22 v3 v5 h (ix2 r g) = ((part (lin x W) 0 g : ℝ) : EReal) := by
  pointwise [k0_pay22]
  exact coe_sum_mul (fun i : Fin 256 => lin x W (256 * 0 + i)) (fun i : Fin 256 => sg (xor (coin (256 * 0 + i)) (had 8 i g)) / 32)
    (fun i => (lin_apply hx hW _).trans (by simp)) (fun i => hh i g)

/-- The second block of the row times its signed matrix. -/
theorem part1_apply {h : Vec Ideal S1x256x256 .bf16} (hh : IsSigned 1 h) (g : Fin 256) :
    k0_pay23 v3 v5 h (ix2 r g) = ((part (lin x W) 1 g : ℝ) : EReal) := by
  pointwise [k0_pay23]
  exact coe_sum_mul (fun i : Fin 256 => lin x W (256 * 1 + i)) (fun i : Fin 256 => sg (xor (coin (256 * 1 + i)) (had 8 i g)) / 32)
    (fun i => (lin_apply hx hW _).trans (by simp)) (fun i => hh i g)

/-- The third block of the row times its signed matrix. -/
theorem part2_apply {h : Vec Ideal S1x256x256 .bf16} (hh : IsSigned 2 h) (g : Fin 256) :
    k0_pay26 (k0_pay24 v3 v5) (k0_pay25 h) (constant S2048x256 .f32 0x00000000#32) (ix2 r g)
      = ((part (lin x W) 2 g : ℝ) : EReal) := by
  pointwise [k0_pay26, k0_pay24, k0_pay25]
  exact coe_sum_mul (fun i : Fin 256 => lin x W (256 * 2 + i)) (fun i : Fin 256 => sg (xor (coin (256 * 2 + i)) (had 8 i g)) / 32)
    (fun i => (lin_apply hx hW _).trans (by simp)) (fun i => hh i g)

end Products

section Bias

variable {b : ℕ → ℝ} {v : Vec Ideal S1x768 .f32} (hb : IsBias b v) {h : Vec Ideal S1x256x256 .bf16}
include hb

/-- The first block of the bias row times its signed matrix. -/
theorem bias0_apply (hh : IsSigned 0 h) (g : Fin 256) : k0_pay8 v h (ix2 0 g) = ((part b 0 g : ℝ) : EReal) := by
  pointwise [k0_pay8]
  exact coe_sum_mul (fun i : Fin 256 => b (256 * 0 + i)) (fun i : Fin 256 => sg (xor (coin (256 * 0 + i)) (had 8 i g)) / 32)
    (fun i => (hb _).trans (by simp)) (fun i => hh i g)

/-- The second block of the bias row times its signed matrix. -/
theorem bias1_apply (hh : IsSigned 1 h) (g : Fin 256) : k0_pay9 v h (ix2 0 g) = ((part b 1 g : ℝ) : EReal) := by
  pointwise [k0_pay9]
  exact coe_sum_mul (fun i : Fin 256 => b (256 * 1 + i)) (fun i : Fin 256 => sg (xor (coin (256 * 1 + i)) (had 8 i g)) / 32)
    (fun i => (hb _).trans (by simp)) (fun i => hh i g)

/-- The third block of the bias row times its signed matrix. -/
theorem bias2_apply (hh : IsSigned 2 h) (g : Fin 256) : k0_pay10 v h (ix2 0 g) = ((part b 2 g : ℝ) : EReal) := by
  pointwise [k0_pay10]
  exact coe_sum_mul (fun i : Fin 256 => b (256 * 2 + i)) (fun i : Fin 256 => sg (xor (coin (256 * 2 + i)) (had 8 i g)) / 32)
    (fun i => (hb _).trans (by simp)) (fun i => hh i g)

end Bias

/-- The signs with which the three blocks enter each of the four combinations. -/
theorem mix_zero (y : ℕ → ℝ) (g : ℕ) : mix 0 y g = part y 0 g + part y 1 g + part y 2 g := by simp [mix, had, par, sg]
theorem mix_one (y : ℕ → ℝ) (g : ℕ) : mix 1 y g = part y 0 g - part y 1 g + part y 2 g := by
  simp [mix, had, par, sg, Nat.testBit, sub_eq_add_neg]
theorem mix_two (y : ℕ → ℝ) (g : ℕ) : mix 2 y g = part y 0 g + part y 1 g - part y 2 g := by
  simp [mix, had, par, sg, Nat.testBit, sub_eq_add_neg]
theorem mix_three (y : ℕ → ℝ) (g : ℕ) : mix 3 y g = part y 0 g - part y 1 g - part y 2 g := by
  simp [mix, had, par, sg, Nat.testBit, sub_eq_add_neg]

end Cert.Rotor

end
-- ==== Proof.KernelBlock.lean ====
/- The rows that one grid point of the kernel stores, as real numbers: the four rows of the bias, kept from the first point on,
   and the three blocks of the result. -/
module

public import proofs.«01_k».proof.Proof.KernelParts

@[expose] public section

set_option maxRecDepth 16384

noncomputable section

namespace Cert.Rotor

open Idealize.ShloMosaic Cert.KernelIdeal Cert.KernelIdeal.Gen

/-- Row `s` of the bias, rotated, with the middle of the levels added. -/
def IsMiddle (b : ℕ → ℝ) (s : ℕ) (v : Vec Ideal S1x1x256 .f32) : Prop :=
  ∀ g : Fin 256, v (ix3 0 0 g) = ((mix s b g + 7.5 : ℝ) : EReal)

/-- Row `r` of a product with block `a`'s signed matrix. -/
def IsPart (y : ℕ → ℝ) (r : Fin 2048) (a : ℕ) (P : FVec Ideal S2048x256 .f32) : Prop :=
  ∀ g : Fin 256, P (ix2 r g) = ((part y a g : ℝ) : EReal)

/-- The row of what the middle of the levels contributes to the first block. -/
def IsSum (v : Vec Ideal S1x256 .f32) : Prop := ∀ j : Fin 256, v (ix2 0 j) = ((if j.val = 0 then 240 else 0 : ℝ) : EReal)

section Bias

variable {b : ℕ → ℝ} {v : Vec Ideal S1x768 .f32} (hb : IsBias b v) {h0 h1 h2 : Vec Ideal S1x256x256 .bf16}
  (hh0 : IsSigned 0 h0) (hh1 : IsSigned 1 h1) (hh2 : IsSigned 2 h2)
include hb hh0 hh1 hh2

theorem middle0 : IsMiddle b 0 (k0_pay13 v h0 v h1 v h2) := fun g => by
  pointwise [k0_pay13, k0_pay11]
  rw [bias0_apply hb hh0, bias1_apply hb hh1, bias2_apply hb hh2, word_half, mix_zero]; rfl

theorem middle1 : IsMiddle b 1 (k0_pay14 v h0 v h1 v h2) := fun g => by
  pointwise [k0_pay14, k0_pay12]
  rw [bias0_apply hb hh0, bias1_apply hb hh1, bias2_apply hb hh2, word_half, mix_one]; rfl

theorem middle2 : IsMiddle b 2 (k0_pay15 (k0_pay10 v h2) (k0_pay11 v h0 v h1)) := fun g => by
  pointwise [k0_pay15, k0_pay11]
  rw [bias0_apply hb hh0, bias1_apply hb hh1, bias2_apply hb hh2, word_half, mix_two]; rfl

theorem middle3 : IsMiddle b 3 (k0_pay16 (k0_pay10 v h2) (k0_pay12 v h0 v h1)) := fun g => by
  pointwise [k0_pay16, k0_pay12]
  rw [bias0_apply hb hh0, bias1_apply hb hh1, bias2_apply hb hh2, word_half, mix_three]; rfl

end Bias

/-- The quantiser on a number with the middle added. -/
theorem level_add {u v : EReal} {p m : ℝ} (hu : u = (p : EReal)) (hv : v = (m : EReal)) :
    min (Ideal.ofBits .f32 0x41700000#32) (max 0 (Ideal.liftRound Ideal.roundHalfEven (u + v))) = ((level (p + m) : ℝ) : EReal) := by
  rw [hu, hv, ← EReal.coe_add, coe_level]

/-- Row `r` of the levels of block `s`. -/
def IsLevels (y b : ℕ → ℝ) (r : Fin 2048) (s : ℕ) (q : FVec Ideal S2048x256 .bf16) : Prop :=
  ∀ g : Fin 256, q (ix2 r g) = ((blockLevel y b s g : ℝ) : EReal)

section Back

variable {y b : ℕ → ℝ} {r : Fin 2048} {H : Vec Ideal S256x256 .bf16}

/-- The levels of a block, times the unsigned matrix, are the block rotated back. -/
theorem back_apply {u : Fin 256 → EReal} {s : ℕ} (hH : IsPlain H) (hu : ∀ g, u g = ((blockLevel y b s g : ℝ) : EReal)) (j : Fin 256) :
    ∑ g : Fin 256, u g * H (ix2 g j) = ((back y b s j : ℝ) : EReal) :=
  coe_sum_mul (fun g : Fin 256 => blockLevel y b s g) (fun g : Fin 256 => sg (had 8 g j) / 32) hu (fun g => hH g j)

theorem back2_apply {q : FVec Ideal S2048x256 .bf16} {s : ℕ} (hH : IsPlain H) (hq : IsLevels y b r s q) (j : Fin 256) :
    k0_pay1 q H (ix2 r j) = ((back y b s j : ℝ) : EReal) := by
  pointwise [k0_pay1]
  exact back_apply hH hq j

theorem back3_apply {q : FVec Ideal S2048x256 .bf16} {s : ℕ} (hH : IsPlain H) (hq : IsLevels y b r s q) (j : Fin 256) :
    k0_pay2 q H (ix2 r j) = ((back y b s j : ℝ) : EReal) := by
  pointwise [k0_pay2]
  exact back_apply hH hq j

end Back

section Levels

variable {y b : ℕ → ℝ} {r : Fin 2048} {P0 P1 v24 cst : FVec Ideal S2048x256 .f32} {v26 : FVec Ideal S256x256 .bf16}
  (hP0 : IsPart y r 0 P0) (hP1 : IsPart y r 1 P1) (hP2 : IsPart y r 2 (k0_pay26 v24 v26 cst))
  {row : Vec Ideal S1x1x256 .f32} {H : Vec Ideal S256x256 .bf16}

include hP0 hP1 hP2

theorem levels2 (hrow : IsMiddle b 2 row) : IsLevels y b r 2 (k0_pay29 (k0_pay20 row) P0 P1 v24 v26 cst) := fun g => by
  pointwise [k0_pay29, k0_pay27, k0_pay20]
  rw [blockLevel]
  exact level_add (by rw [hP0, hP1, hP2, mix_two]; rfl) (hrow g)

theorem levels3 (hrow : IsMiddle b 3 row) : IsLevels y b r 3 (k0_pay30 (k0_pay21 row) P0 P1 v24 v26 cst) := fun g => by
  pointwise [k0_pay30, k0_pay28, k0_pay21]
  rw [blockLevel]
  exact level_add (by rw [hP0, hP1, hP2, mix_three]; rfl) (hrow g)

theorem back0_apply (hH : IsPlain H) (hrow : IsMiddle b 0 row) (j : Fin 256) :
    k0_pay31 (k0_pay18 row) P0 P1 v24 v26 cst H (ix2 r j) = ((back y b 0 j : ℝ) : EReal) := by
  pointwise [k0_pay31, k0_pay27, k0_pay18]
  refine back_apply (y := y) (b := b) (s := 0) hH (fun g => ?_) j
  rw [blockLevel]
  exact level_add (by rw [hP0, hP1, hP2, mix_zero]; rfl) (hrow g)

theorem back1_apply (hH : IsPlain H) (hrow : IsMiddle b 1 row) (j : Fin 256) :
    k0_pay32 (k0_pay19 row) P0 P1 v24 v26 cst H (ix2 r j) = ((back y b 1 j : ℝ) : EReal) := by
  pointwise [k0_pay32, k0_pay28, k0_pay19]
  refine back_apply (y := y) (b := b) (s := 1) hH (fun g => ?_) j
  rw [blockLevel]
  exact level_add (by rw [hP0, hP1, hP2, mix_one]; rfl) (hrow g)

end Levels

/-! ### The three blocks of the result -/

theorem blockOut_zero (y b : ℕ → ℝ) (j : ℕ) : blockOut y b 0 j
    = ((back y b 0 j + back y b 1 j) + (back y b 2 j + back y b 3 j) - (if j = 0 then 240 else 0)) * sg (coin (256 * 0 + j)) := by
  simp only [blockOut, Fin.sum_univ_four]; simp [had, par, sg, add_assoc]

theorem blockOut_one (y b : ℕ → ℝ) (j : ℕ) : blockOut y b 1 j
    = ((back y b 0 j - back y b 1 j) + (back y b 2 j - back y b 3 j)) * sg (coin (256 * 1 + j)) := by
  simp only [blockOut, Fin.sum_univ_four]; simp [had, par, sg, Nat.testBit]; ring_nf; simp

theorem blockOut_two (y b : ℕ → ℝ) (j : ℕ) : blockOut y b 2 j
    = ((back y b 0 j + back y b 1 j) - (back y b 2 j + back y b 3 j)) * sg (coin (256 * 2 + j)) := by
  simp only [blockOut, Fin.sum_univ_four]; simp [had, par, sg, Nat.testBit]; ring_nf; simp

section Out

variable {y b : ℕ → ℝ} {r : Fin 2048} {t0 t1 : FVec Ideal S2048x256 .f32} {q2 q3 : FVec Ideal S2048x256 .bf16}
  {H : Vec Ideal S256x256 .bf16} (hH : IsPlain H) (h0 : ∀ j : Fin 256, t0 (ix2 r j) = ((back y b 0 j : ℝ) : EReal))
  (h1 : ∀ j : Fin 256, t1 (ix2 r j) = ((back y b 1 j : ℝ) : EReal)) (h2 : IsLevels y b r 2 q2) (h3 : IsLevels y b r 3 q3)
  {s : Vec Ideal S1x1x256 .f32}
include hH h0 h1 h2 h3

theorem out0_apply {x6 : Vec Ideal S1x256 .f32} (h6 : IsSum x6) (hs : IsCoins 0 s) (j : Fin 256) :
    k0_pay5 q2 q3 t0 t1 H H x6 s (ix2 r j) = ((blockOut y b 0 j : ℝ) : EReal) := by
  pointwise [k0_pay5, k0_pay3, k0_pay4]
  rw [back2_apply hH h2, back3_apply hH h3, h0, h1, h6, hs, blockOut_zero]; rfl

theorem out1_apply (hs : IsCoins 1 s) (j : Fin 256) :
    k0_pay6 q2 q3 t0 t1 H H s (ix2 r j) = ((blockOut y b 1 j : ℝ) : EReal) := by
  pointwise [k0_pay6]
  rw [back2_apply hH h2, back3_apply hH h3, h0, h1, hs, blockOut_one]; rfl

theorem out2_apply (hs : IsCoins 2 s) (j : Fin 256) :
    k0_pay7 q2 q3 t0 t1 H H s (ix2 r j) = ((blockOut y b 2 j : ℝ) : EReal) := by
  pointwise [k0_pay7, k0_pay3, k0_pay4]
  rw [back2_apply hH h2, back3_apply hH h3, h0, h1, hs, blockOut_two]; rfl

end Out

end Cert.Rotor

end
-- ==== Proof.KernelPoint.lean ====
/- What the body leaves at one grid point, entry by entry, as real numbers: the block of the result, and the four rows of the
   bias that the first point keeps for the others. -/
module

public import proofs.«01_k».proof.Proof.KernelBlock
public import proofs.«01_k».proof.Proof.Gen.KernelIdeal.Frame
public import Idealize.ShloMosaic.Lib.Pipeline.ValueKit

@[expose] public section

set_option maxRecDepth 16384

noncomputable section

namespace Cert.Rotor

open Idealize.ShloMosaic Idealize.ShloMosaic.Tactic Cert.KernelIdeal Cert.KernelIdeal.Gen

/-- The blocks that a grid point reads: its rows of the input `X`, the weights `W`, the bias `b` and the four tables. -/
structure IsPoint (X : ℕ → ℕ → ℝ) (W : ℕ → ℕ → ℝ) (b : ℕ → ℝ) (x0 : Vec Ideal S2048x768 .f32) (x1 : Vec Ideal S768x768 .bf16)
    (x2 : Vec Ideal S1x768 .f32) (x3 : Vec Ideal S3x256x256 .bf16) (x4 : Vec Ideal S256x256 .bf16)
    (x5 : Vec Ideal S3x1x256 .f32) (x6 : Vec Ideal S1x256 .f32) : Prop where
  row : ∀ r : Fin 2048, IsRow (X r) r x0
  weights : IsWeights W x1
  bias : IsBias b x2
  signed : ∀ (a : Fin 3) (i g : Fin 256), x3 (ix3 a i g) = ((sg (xor (coin (256 * a + i)) (had 8 i g)) / 32 : ℝ) : EReal)
  plain : IsPlain x4
  coins : ∀ (a : Fin 3) (j : Fin 256), x5 (ix3 a 0 j) = ((sg (coin (256 * a + j)) : ℝ) : EReal)
  sum : IsSum x6

/-- The scratch holding the four rows of the bias, rotated, with the middle of the levels added. -/
def IsScratch (b : ℕ → ℝ) (xs : Vec Ideal S4x1x256 .f32) : Prop :=
  ∀ (s : Fin 4) (g : Fin 256), xs (ix3 s 0 g) = ((mix s b g + 7.5 : ℝ) : EReal)

/-- A number below 768 is a place in one of three blocks of 256. -/
theorem blocks_of (C : Fin 768) : ∃ (a : Fin 3) (j : Fin 256), C.val = 256 * a.val + j.val :=
  ⟨⟨C / 256, by omega⟩, ⟨C % 256, by omega⟩, by simp only; omega⟩

/-- One block of columns of the result, against the whole. -/
theorem block_apply {o : ℕ} (inb : ∀ a, (![0, o] : Fin 2 → ℕ) a + S2048x256.size a ≤ S2048x768.size a) {f : FVec Ideal S2048x256 .f32}
    (G : ℕ → ℕ → EReal) (h : ∀ (r : Fin 2048) (j : Fin 256), f (ix2 r j) = G r (o + j)) (x : S2048x256.Idx) :
    f x = G ((Rect.unit (s := S2048x768) ![0, o] S2048x256.size inb).emb x 0) ((Rect.unit (s := S2048x768) ![0, o] S2048x256.size inb).emb x 1) := by
  rw [ValueKit.rect_emb_unit_val, ValueKit.rect_emb_unit_val]
  refine (congrArg f (eq_ix2 x)).trans ((h _ _).trans ?_)
  show G _ _ = G (0 + _) _
  rw [zero_add]; rfl

/-- Where a block of columns lies. -/
theorem mem_block {o : ℕ} (inb : ∀ a, (![0, o] : Fin 2 → ℕ) a + S2048x256.size a ≤ S2048x768.size a) (r : Fin 2048) (C : Fin 768)
    (h : o ≤ C.val) (h' : C.val < o + 256) : (ix2 r C : S2048x768.Idx) ∈ (Rect.unit (s := S2048x768) ![0, o] S2048x256.size inb).set :=
  Rect.mem_set_unit.mpr fun a => by
    have := r.isLt
    match a with
    | 0 => exact ⟨Nat.zero_le _, (by omega : r.val < 0 + 2048)⟩
    | 1 => exact ⟨h, h'⟩

/-- The three stores of the result, read back: block `a` of a row is what the store of block `a` wrote. -/
theorem canon_out {f0 f1 f2 : FVec Ideal S2048x256 .f32} (G : ℕ → ℕ → EReal)
    (h0 : ∀ (r : Fin 2048) (j : Fin 256), f0 (ix2 r j) = G r (0 + j)) (h1 : ∀ (r : Fin 2048) (j : Fin 256), f1 (ix2 r j) = G r (256 + j))
    (h2 : ∀ (r : Fin 2048) (j : Fin 256), f2 (ix2 r j) = G r (512 + j)) (r : Fin 2048) (C : Fin 768) :
    View.canon (Val := Elt Ideal) (s := S2048x768) (e := .f32)
      [⟨Rect.unit ![0, 512] S2048x256.size inb_S2048x768_S2048x256_0_512, f2⟩,
       ⟨Rect.unit ![0, 256] S2048x256.size inb_S2048x768_S2048x256_0_256, f1⟩,
       ⟨Rect.unit ![0, 0] S2048x256.size inb_S2048x768_S2048x256_0_0, f0⟩] (ix2 r C) = G r C := by
  refine View.canon_apply_of_pieces (Val := Elt Ideal) (S := S2048x768) (e := .f32) (fun y => G (y 0) (y 1)) _ ?_ (ix2 r C) ?_
  · simp only [List.forall_mem_cons, List.not_mem_nil, false_imp_iff, implies_true, and_true]
    exact ⟨block_apply _ G h2, block_apply _ G h1, block_apply _ G h0⟩
  · rcases Nat.lt_or_ge C 256 with h | h
    · exact ⟨_, .tail _ (.tail _ (.head _)), mem_block inb_S2048x768_S2048x256_0_0 r C (Nat.zero_le _) (by omega)⟩
    · rcases Nat.lt_or_ge C 512 with h' | h'
      · exact ⟨_, .tail _ (.head _), mem_block inb_S2048x768_S2048x256_0_256 r C h (by omega)⟩
      · exact ⟨_, .head _, mem_block inb_S2048x768_S2048x256_0_512 r C h' (by omega)⟩

/-- One row of the scratch, against the whole. -/
theorem row_apply {o : ℕ} (inb : ∀ a, (![o, 0, 0] : Fin 3 → ℕ) a + S1x1x256.size a ≤ S4x1x256.size a) {f : FVec Ideal S1x1x256 .f32}
    (b : ℕ → ℝ) (h : IsMiddle b o f) (x : S1x1x256.Idx) :
    f x = ((mix ((Rect.unit (s := S4x1x256) ![o, 0, 0] S1x1x256.size inb).emb x 0) b
      ((Rect.unit (s := S4x1x256) ![o, 0, 0] S1x1x256.size inb).emb x 2) + 7.5 : ℝ) : EReal) := by
  rw [ValueKit.rect_emb_unit_val, ValueKit.rect_emb_unit_val]
  have e0 : x 0 = (0 : Fin 1) := Subsingleton.elim (α := Fin 1) _ _
  have e1 : x 1 = (0 : Fin 1) := Subsingleton.elim (α := Fin 1) _ _
  have e : x = ix3 0 0 (x 2) := (eq_ix3 x).trans (by rw [e0, e1]; rfl)
  refine (congrArg f e).trans ((h _).trans ?_)
  rw [e0]
  show _ = ((mix (o + 0) b (0 + _) + 7.5 : ℝ) : EReal)
  rw [zero_add]; rfl

/-- Where a row of the scratch lies. -/
theorem mem_row {o : ℕ} (inb : ∀ a, (![o, 0, 0] : Fin 3 → ℕ) a + S1x1x256.size a ≤ S4x1x256.size a) (s : Fin 4) (g : Fin 256)
    (h : s.val = o) : (ix3 s (0 : Fin 1) g : S4x1x256.Idx) ∈ (Rect.unit (s := S4x1x256) ![o, 0, 0] S1x1x256.size inb).set :=
  Rect.mem_set_unit.mpr fun a => by
    have := g.isLt
    match a with
    | 0 => exact ⟨h.ge, (by omega : s.val < o + 1)⟩
    | 1 => exact ⟨Nat.zero_le _, (by omega : 0 < 0 + 1)⟩
    | 2 => exact ⟨Nat.zero_le _, (by omega : g.val < 0 + 256)⟩

/-- The four stores of the scratch, read back. -/
theorem canon_scratch {b : ℕ → ℝ} {f0 f1 f2 f3 : FVec Ideal S1x1x256 .f32} (h0 : IsMiddle b 0 f0) (h1 : IsMiddle b 1 f1)
    (h2 : IsMiddle b 2 f2) (h3 : IsMiddle b 3 f3) :
    IsScratch b (View.canon (Val := Elt Ideal) (s := S4x1x256) (e := .f32)
      [⟨Rect.unit ![3, 0, 0] S1x1x256.size inb_S4x1x256_S1x1x256_3_0_0, f3⟩,
       ⟨Rect.unit ![2, 0, 0] S1x1x256.size inb_S4x1x256_S1x1x256_2_0_0, f2⟩,
       ⟨Rect.unit ![1, 0, 0] S1x1x256.size inb_S4x1x256_S1x1x256_1_0_0, f1⟩,
       ⟨Rect.unit ![0, 0, 0] S1x1x256.size inb_S4x1x256_S1x1x256_0_0_0, f0⟩]) := fun s g => by
  refine View.canon_apply_of_pieces (Val := Elt Ideal) (S := S4x1x256) (e := .f32)
    (fun y => ((mix (y 0) b (y 2) + 7.5 : ℝ) : EReal)) _ ?_ (ix3 s 0 g) ?_
  · simp only [List.forall_mem_cons, List.not_mem_nil, false_imp_iff, implies_true, and_true]
    exact ⟨row_apply _ b h3, row_apply _ b h2, row_apply _ b h1, row_apply _ b h0⟩
  · have : s.val < 4 := s.isLt
    rcases (by omega : s.val = 0 ∨ s.val = 1 ∨ s.val = 2 ∨ s.val = 3) with e | e | e | e
    · exact ⟨_, .tail _ (.tail _ (.tail _ (.head _))), mem_row inb_S4x1x256_S1x1x256_0_0_0 s g e⟩
    · exact ⟨_, .tail _ (.tail _ (.head _)), mem_row inb_S4x1x256_S1x1x256_1_0_0 s g e⟩
    · exact ⟨_, .tail _ (.head _), mem_row inb_S4x1x256_S1x1x256_2_0_0 s g e⟩
    · exact ⟨_, .head _, mem_row inb_S4x1x256_S1x1x256_3_0_0 s g e⟩

/-- A row of the scratch, as loaded. -/
theorem middle_of {b : ℕ → ℝ} {xs : Vec Ideal S4x1x256 .f32} (h : IsScratch b xs) {o : ℕ} (ho : o < 4)
    (inb : ∀ a, (![o, 0, 0] : Fin 3 → ℕ) a + S1x1x256.size a ≤ S4x1x256.size a) :
    IsMiddle b o (View.ld xs (Rect.unit (s := S4x1x256) ![o, 0, 0] S1x1x256.size inb)) := fun g =>
  (View.ld_unit_apply_of xs _ _ inb _ (ix3 ⟨o, ho⟩ 0 g) (fun a => by match a with | 0 => rfl | 1 => rfl | 2 => exact (Nat.zero_add _).symm)).trans (h ⟨o, ho⟩ g)

/-- A row of the scratch, loaded after the four stores. -/
theorem middle_readCov {b : ℕ → ℝ} (v : View sig .tc .vmem S4x1x256 .f32) {L : List (View.Piece (Elt Ideal) S4x1x256 .f32)}
    (h : IsScratch b (View.canon L)) {o : ℕ} (ho : o < 4)
    (inb : ∀ a, (![o, 0, 0] : Fin 3 → ℕ) a + S1x1x256.size a ≤ S4x1x256.size a) :
    IsMiddle b o (v.readCov L (Rect.unit (s := S4x1x256) ![o, 0, 0] S1x1x256.size inb).toLoadRect) := by
  rw [View.readCov_eq_canon']
  exact middle_of h ho inb

section Result

variable {y : Fin 2048 → ℕ → ℝ} {b : ℕ → ℝ} {P0 P1 v24 cst : FVec Ideal S2048x256 .f32} {v26 H : FVec Ideal S256x256 .bf16}
  {row0 row1 row2 row3 s0 s1 s2 : Vec Ideal S1x1x256 .f32} {x6 : Vec Ideal S1x256 .f32}

/-- The stored blocks of the result, given the products of the rows with the signed matrices, the scratch's rows and the
    tables. -/
theorem canon_result (hP0 : ∀ r, IsPart (y r) r 0 P0) (hP1 : ∀ r, IsPart (y r) r 1 P1)
    (hP2 : ∀ r, IsPart (y r) r 2 (k0_pay26 v24 v26 cst)) (hH : IsPlain H) (m0 : IsMiddle b 0 row0) (m1 : IsMiddle b 1 row1)
    (m2 : IsMiddle b 2 row2) (m3 : IsMiddle b 3 row3) (h6 : IsSum x6) (hs0 : IsCoins 0 s0) (hs1 : IsCoins 1 s1) (hs2 : IsCoins 2 s2)
    (r : Fin 2048) (C : Fin 768) :
    View.canon (Val := Elt Ideal) (s := S2048x768) (e := .f32)
      [⟨Rect.unit ![0, 512] S2048x256.size inb_S2048x768_S2048x256_0_512,
          k0_pay7 (k0_pay29 (k0_pay20 row2) P0 P1 v24 v26 cst) (k0_pay30 (k0_pay21 row3) P0 P1 v24 v26 cst)
            (k0_pay31 (k0_pay18 row0) P0 P1 v24 v26 cst H) (k0_pay32 (k0_pay19 row1) P0 P1 v24 v26 cst H) H H s2⟩,
       ⟨Rect.unit ![0, 256] S2048x256.size inb_S2048x768_S2048x256_0_256,
          k0_pay6 (k0_pay29 (k0_pay20 row2) P0 P1 v24 v26 cst) (k0_pay30 (k0_pay21 row3) P0 P1 v24 v26 cst)
            (k0_pay31 (k0_pay18 row0) P0 P1 v24 v26 cst H) (k0_pay32 (k0_pay19 row1) P0 P1 v24 v26 cst H) H H s1⟩,
       ⟨Rect.unit ![0, 0] S2048x256.size inb_S2048x768_S2048x256_0_0,
          k0_pay5 (k0_pay29 (k0_pay20 row2) P0 P1 v24 v26 cst) (k0_pay30 (k0_pay21 row3) P0 P1 v24 v26 cst)
            (k0_pay31 (k0_pay18 row0) P0 P1 v24 v26 cst H) (k0_pay32 (k0_pay19 row1) P0 P1 v24 v26 cst H) H H x6 s0⟩] (ix2 r C)
      = ((plainOut (fun n => y r n + b n) C : ℝ) : EReal) := by
  have hb0 := fun r j => back0_apply (hP0 r) (hP1 r) (hP2 r) hH m0 j
  have hb1 := fun r j => back1_apply (hP0 r) (hP1 r) (hP2 r) hH m1 j
  have hl2 := fun r => levels2 (hP0 r) (hP1 r) (hP2 r) m2
  have hl3 := fun r => levels3 (hP0 r) (hP1 r) (hP2 r) m3
  refine canon_out (fun r C => ((plainOut (fun n => if h : r < 2048 then y ⟨r, h⟩ n + b n else 0) C : ℝ) : EReal)) ?_ ?_ ?_ r C |>.trans ?_
  · intro r j
    rw [out0_apply hH (hb0 r) (hb1 r) (hl2 r) (hl3 r) h6 hs0 j, blockOut_eq _ _ 0 j (by omega) j.isLt]
    simp only [r.isLt, dif_pos]
  · intro r j
    rw [out1_apply hH (hb0 r) (hb1 r) (hl2 r) (hl3 r) hs1 j, blockOut_eq _ _ 1 j (by omega) j.isLt]
    simp only [r.isLt, dif_pos]
  · intro r j
    rw [out2_apply hH (hb0 r) (hb1 r) (hl2 r) (hl3 r) hs2 j, blockOut_eq _ _ 2 j (by omega) j.isLt]
    simp only [r.isLt, dif_pos]
  · simp only [r.isLt, dif_pos]

end Result

variable {X : ℕ → ℕ → ℝ} {W : ℕ → ℕ → ℝ} {b : ℕ → ℝ} {x0 : Vec Ideal S2048x768 .f32} {x1 : Vec Ideal S768x768 .bf16}
  {x2 : Vec Ideal S1x768 .f32} {x3 : Vec Ideal S3x256x256 .bf16} {x4 : Vec Ideal S256x256 .bf16} {x5 : Vec Ideal S3x1x256 .f32}
  {x6 : Vec Ideal S1x256 .f32}

/-! ### The loads of the blocks -/

theorem zero_pair : ∀ a : Fin 2, (![0, 0] : Fin 2 → ℕ) a = 0 := by decide

namespace IsPoint

variable (h : IsPoint X W b x0 x1 x2 x3 x4 x5 x6)
include h

theorem ld_signed (a : ℕ) (ha : a < 3) (inb : ∀ d, (![a, 0, 0] : Fin 3 → ℕ) d + S1x256x256.size d ≤ S3x256x256.size d) :
    IsSigned a (View.ld x3 (Rect.unit (s := S3x256x256) ![a, 0, 0] S1x256x256.size inb)) := fun i g =>
  (View.ld_unit_apply_of x3 _ _ inb _ (ix3 ⟨a, ha⟩ i g) (fun d => by
    match d with | 0 => rfl | 1 => exact (Nat.zero_add _).symm | 2 => exact (Nat.zero_add _).symm)).trans (h.signed ⟨a, ha⟩ i g)

theorem ld_coins (a : ℕ) (ha : a < 3) (inb : ∀ d, (![a, 0, 0] : Fin 3 → ℕ) d + S1x1x256.size d ≤ S3x1x256.size d) :
    IsCoins a (View.ld x5 (Rect.unit (s := S3x1x256) ![a, 0, 0] S1x1x256.size inb)) := fun j =>
  (View.ld_unit_apply_of x5 _ _ inb _ (ix3 ⟨a, ha⟩ 0 j) (fun d => by
    match d with | 0 => rfl | 1 => rfl | 2 => exact (Nat.zero_add _).symm)).trans (h.coins ⟨a, ha⟩ j)

theorem ld_row (r : Fin 2048) (inb : ∀ d, (![0, 0] : Fin 2 → ℕ) d + S2048x768.size d ≤ S2048x768.size d) :
    IsRow (X r) r (View.ld x0 (Rect.unit (s := S2048x768) ![0, 0] S2048x768.size inb)) := by
  rw [View.ld_unit_lit (S := S2048x768) inb x0 zero_pair]; exact h.row r

theorem ld_weights (inb : ∀ d, (![0, 0] : Fin 2 → ℕ) d + S768x768.size d ≤ S768x768.size d) :
    IsWeights W (View.ld x1 (Rect.unit (s := S768x768) ![0, 0] S768x768.size inb)) := by
  rw [View.ld_unit_lit (S := S768x768) inb x1 zero_pair]; exact h.weights

theorem ld_bias (inb : ∀ d, (![0, 0] : Fin 2 → ℕ) d + S1x768.size d ≤ S1x768.size d) :
    IsBias b (View.ld x2 (Rect.unit (s := S1x768) ![0, 0] S1x768.size inb)) := by
  rw [View.ld_unit_lit (S := S1x768) inb x2 zero_pair]; exact h.bias

theorem ld_plain (inb : ∀ d, (![0, 0] : Fin 2 → ℕ) d + S256x256.size d ≤ S256x256.size d) :
    IsPlain (View.ld x4 (Rect.unit (s := S256x256) ![0, 0] S256x256.size inb)) := by
  rw [View.ld_unit_lit (S := S256x256) inb x4 zero_pair]; exact h.plain

theorem ld_sum (inb : ∀ d, (![0, 0] : Fin 2 → ℕ) d + S1x256.size d ≤ S1x256.size d) :
    IsSum (View.ld x6 (Rect.unit (s := S1x256) ![0, 0] S1x256.size inb)) := by
  rw [View.ld_unit_lit (S := S1x256) inb x6 zero_pair]; exact h.sum

end IsPoint

variable (c : Dev nD) (i : grid0.Coords)
  (arg1 : Memref sig .tc .vmem S2048x768 .f32) (harg1 : arg1.IsWhole)
  (arg2 : Memref sig .tc .vmem S768x768 .bf16) (harg2 : arg2.IsWhole)
  (arg3 : Memref sig .tc .vmem S1x768 .f32) (harg3 : arg3.IsWhole)
  (arg4 : Memref sig .tc .vmem S3x256x256 .bf16) (harg4 : arg4.IsWhole)
  (arg5 : Memref sig .tc .vmem S256x256 .bf16) (harg5 : arg5.IsWhole)
  (arg6 : Memref sig .tc .vmem S3x1x256 .f32) (harg6 : arg6.IsWhole)
  (arg7 : Memref sig .tc .vmem S1x256 .f32) (harg7 : arg7.IsWhole)
  (arg8 : Memref sig .tc .vmem S2048x768 .f32) (harg8 : arg8.IsWhole)
  (arg9 : Memref sig .tc .vmem S4x1x256 .f32) (harg9 : arg9.IsWhole)

/-- The scratch after the first point. -/
theorem scratch_first (hc0 : cond0_0 i) (h : IsPoint X W b x0 x1 x2 x3 x4 x5 x6) :
    IsScratch b (sout0_A_0 c i arg1 harg1 arg2 harg2 arg3 harg3 arg4 harg4 arg5 harg5 arg6 harg6 arg7 harg7 arg8 harg8 arg9 harg9 hc0 x0 x1 x2 x3 x4 x5 x6) := by
  intro s g
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  exact canon_scratch
    (middle0 (h.ld_bias _) (h.ld_signed 0 (by omega) _) (h.ld_signed 1 (by omega) _) (h.ld_signed 2 (by omega) _))
    (middle1 (h.ld_bias _) (h.ld_signed 0 (by omega) _) (h.ld_signed 1 (by omega) _) (h.ld_signed 2 (by omega) _))
    (middle2 (h.ld_bias _) (h.ld_signed 0 (by omega) _) (h.ld_signed 1 (by omega) _) (h.ld_signed 2 (by omega) _))
    (middle3 (h.ld_bias _) (h.ld_signed 0 (by omega) _) (h.ld_signed 1 (by omega) _) (h.ld_signed 2 (by omega) _)) s g

/-- A later point's block of the result. -/
theorem out_later (hc0 : ¬ cond0_0 i) (h : IsPoint X W b x0 x1 x2 x3 x4 x5 x6) {xs0 : Vec Ideal S4x1x256 .f32}
    (hs : IsScratch b xs0) (r : Fin 2048) (C : Fin 768) :
    out0_B_7 c i arg1 harg1 arg2 harg2 arg3 harg3 arg4 harg4 arg5 harg5 arg6 harg6 arg7 harg7 arg8 harg8 arg9 harg9 hc0 x0 x1 x2 x3 x4 x5 x6 xs0 (ix2 r C)
      = ((plainOut (fun n => lin (X r) W n + b n) C : ℝ) : EReal) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  simp only [View.readAt_eq_ld, harg1.read_unread, harg2.read_unread, harg3.read_unread, harg4.read_unread, harg5.read_unread, harg6.read_unread, harg7.read_unread, harg9.read_unread]
  exact canon_result (y := fun r => lin (X r) W)
    (fun r => part0_apply (h.ld_row r _) (h.ld_weights _) (h.ld_signed 0 (by omega) _))
    (fun r => part1_apply (h.ld_row r _) (h.ld_weights _) (h.ld_signed 1 (by omega) _))
    (fun r => part2_apply (h.ld_row r _) (h.ld_weights _) (h.ld_signed 2 (by omega) _)) (h.ld_plain _)
    (middle_of hs (by omega) _) (middle_of hs (by omega) _) (middle_of hs (by omega) _) (middle_of hs (by omega) _)
    (h.ld_sum _) (h.ld_coins 0 (by omega) _) (h.ld_coins 1 (by omega) _) (h.ld_coins 2 (by omega) _) r C

/-- The first point's block of the result. -/
theorem out_first (hc0 : cond0_0 i) (h : IsPoint X W b x0 x1 x2 x3 x4 x5 x6) (r : Fin 2048) (C : Fin 768) :
    out0_A_7 c i arg1 harg1 arg2 harg2 arg3 harg3 arg4 harg4 arg5 harg5 arg6 harg6 arg7 harg7 arg8 harg8 arg9 harg9 hc0 x0 x1 x2 x3 x4 x5 x6 (ix2 r C)
      = ((plainOut (fun n => lin (X r) W n + b n) C : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  refine canon_result (y := fun r => lin (X r) W)
    (fun r => part0_apply (h.ld_row r _) (h.ld_weights _) (h.ld_signed 0 (by omega) _))
    (fun r => part1_apply (h.ld_row r _) (h.ld_weights _) (h.ld_signed 1 (by omega) _))
    (fun r => part2_apply (h.ld_row r _) (h.ld_weights _) (h.ld_signed 2 (by omega) _)) (h.ld_plain _)
    (middle_readCov _ ?hs (by omega) _) (middle_readCov _ ?hs (by omega) _) (middle_readCov _ ?hs (by omega) _) (middle_readCov _ ?hs (by omega) _)
    (h.ld_sum _) (h.ld_coins 0 (by omega) _) (h.ld_coins 1 (by omega) _) (h.ld_coins 2 (by omega) _) r C
  exact canon_scratch
    (middle0 (h.ld_bias _) (h.ld_signed 0 (by omega) _) (h.ld_signed 1 (by omega) _) (h.ld_signed 2 (by omega) _))
    (middle1 (h.ld_bias _) (h.ld_signed 0 (by omega) _) (h.ld_signed 1 (by omega) _) (h.ld_signed 2 (by omega) _))
    (middle2 (h.ld_bias _) (h.ld_signed 0 (by omega) _) (h.ld_signed 1 (by omega) _) (h.ld_signed 2 (by omega) _))
    (middle3 (h.ld_bias _) (h.ld_signed 0 (by omega) _) (h.ld_signed 1 (by omega) _) (h.ld_signed 2 (by omega) _))

end Cert.Rotor

end
-- ==== Proof.KernelTables.lean ====
/- The kernel's constant tables in closed form. The program holds the 256 × 256 Hadamard matrix as a long table of words; each
   word is shown to be plus or minus 1/32 with the sign the Hadamard matrix says. -/
module

public import proofs.«01_k».proof.KernelIdeal
public import proofs.«01_k».proof.Proof.Tables
public import Idealize.ShloMosaic.Lib.Tactic

@[expose] public section

noncomputable section

namespace Cert.Rotor

open Cert.KernelIdeal

/-- The 4 pages of the Hadamard matrix's table, each an evaluation of its 16384 words. -/
theorem plain_pages : lit0t = fun n => match n / 16384 with
    | 0 => page plainWord (16384 * 0) n
    | 1 => page plainWord (16384 * 1) n
    | 2 => page plainWord (16384 * 2) n
    | 3 => page plainWord (16384 * 3) n
    | _ => 0#32 := by sl_kernel_rfl

/-- The 6 lines of the kernel's sign table. -/
theorem sign_lines : lit1t = fun n => match n / 128 with
    | 0 => line signWord (128 * 0) n
    | 1 => line signWord (128 * 1) n
    | 2 => line signWord (128 * 2) n
    | 3 => line signWord (128 * 3) n
    | 4 => line signWord (128 * 4) n
    | 5 => line signWord (128 * 5) n
    | _ => 0#32 := by sl_kernel_rfl

/-- The Hadamard matrix's word at row `i` and column `g`. -/
theorem lit0_eq (n : Fin 65536) : lit0 n =
    word 0x3D000000#32 0xBD000000#32 (had 8 (n / 256) (n % 256)) := by
  obtain ⟨n, hn⟩ := n
  show lit0t n = _
  rw [had_eight _ _ (by dsimp only; omega), plain_pages]
  change _ = plainWord n
  obtain ⟨k, hk⟩ : ∃ k, n / 16384 = k := ⟨_, rfl⟩
  have hk4 : k < 4 := by omega
  beta_reduce; rw [hk]
  interval_cases k <;> exact page_eq plainWord _ n hk

/-- The kernel's sign table at feature `n`. -/
theorem lit1_eq (n : Fin 768) : lit1 n = word 0x3F800000#32 0xBF800000#32 (coin n) := by
  obtain ⟨n, hn⟩ := n
  show lit1t n = _
  rw [sign_lines]
  change _ = signWord n
  obtain ⟨k, hk⟩ : ∃ k, n / 128 = k := ⟨_, rfl⟩
  have hk6 : k < 6 := by omega
  beta_reduce; rw [hk]
  interval_cases k <;> exact line_eq signWord _ n hk

/-- The correction row: the word of 240 first, zeros after it. -/
theorem lit2_eq : ∀ n : Fin 256, lit2 n = word 0x00000000#32 0x43700000#32 (n.val == 0) := by decide +kernel

end Cert.Rotor

end
-- ==== Proof.KernelEntry.lean ====
/- What the kernel's grid points read: the arrays as the region finds them, made of the arguments and of the literal tables, and
   their blocks at a point. -/
module

public import proofs.«01_k».proof.Proof.KernelPoint
public import proofs.«01_k».proof.Proof.KernelTables
public import Idealize.ShloMosaic.Lib.Claim

@[expose] public section

set_option maxRecDepth 16384

noncomputable section

namespace Cert.Rotor

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The region finds what the host operations before it leave. -/
theorem entry (r : Ref sig .tc) : V m c r = StableHlo.after hostOps0 (fun b => m (c, b)) (Proc.devRef .tc r) := rfl

/-- The input's rows, as the region finds them. -/
theorem entry_rows (N : Fin 16384) (k : Fin 768) :
    V m c main_v0 (ix2 N k) = m ((c : Thread nD τ).loc main_arg0) (ix3 (⟨N / 1024, by omega⟩ : Fin 16) (⟨N % 1024, by omega⟩ : Fin 1024) k) := by
  rw [entry]
  entry_read
  pointwise

/-- The bias row. -/
theorem entry_bias (n : Fin 768) : V m c main_v1 (ix2 0 n) = m ((c : Thread nD τ).loc main_arg2) (ix1 n) := by
  rw [entry]
  entry_read
  pointwise

/-- The weights. -/
theorem entry_weights (k n : Fin 768) : V m c main_v2 (ix2 k n) = m ((c : Thread nD τ).loc main_arg1) (ix2 k n) := by
  rw [entry]
  entry_read
  pointwise

/-- The word of the signs' table at row `a`, column `i`. -/
theorem word_coin (a : Fin 3) (i : Fin 256) (n : Fin 768) (e : n.val = (a.val * 1 + 0) * 256 + i.val) :
    Ideal.ofBits .f32 (lit1 n) = ((sg (coin (256 * a + i)) : ℝ) : EReal) := by
  rw [lit1_eq, ofBits_sign, show n.val = 256 * a.val + i.val from by omega]

/-- The word of the Hadamard matrix's table at row `g`, column `j`. -/
theorem word_had (g j : Fin 256) (n : Fin 65536) (e : n.val = g.val * 256 + j.val) :
    Ideal.ofBits .f32 (lit0 n) = ((sg (had 8 g j) / 32 : ℝ) : EReal) := by
  have hj := j.isLt
  have e0 : n.val / 256 = g.val := by omega
  have e1 : n.val % 256 = j.val := by omega
  rw [lit0_eq, e0, e1, ofBits_unit]

/-- The signed block matrices, each word a sign times a word of the Hadamard matrix. -/
theorem entry_signed (a : Fin 3) (i g : Fin 256) :
    V m c main_v8 (ix3 a i g) = ((sg (xor (coin (256 * a + i)) (had 8 i g)) / 32 : ℝ) : EReal) := by
  rw [entry]
  entry_read
  pointwise
  rw [word_coin a i _ (Shape.rowMajor_val_three (d := ![3, 1, 256]) (ix3 a 0 i)),
    word_had i g _ (Shape.rowMajor_val_two (d := ![256, 256]) (ix2 i g)), ← EReal.coe_mul, sg_xor, mul_div_assoc]

/-- The unsigned block matrix. -/
theorem entry_plain (g j : Fin 256) : V m c main_v9 (ix2 g j) = ((sg (had 8 g j) / 32 : ℝ) : EReal) := by
  rw [entry]
  entry_read
  exact word_had g j (S256x256.rowMajor (ix2 g j)) (Shape.rowMajor_val_two (d := ![256, 256]) (ix2 g j))

/-- The rows of signs. -/
theorem entry_coins (a : Fin 3) (j : Fin 256) : V m c main_cst_0 (ix3 a 0 j) = ((sg (coin (256 * a + j)) : ℝ) : EReal) := by
  rw [entry]
  entry_read
  exact word_coin a j (S3x1x256.rowMajor (ix3 a 0 j)) (Shape.rowMajor_val_three (d := ![3, 1, 256]) (ix3 a 0 j))

/-- The row of the middle's contribution. -/
theorem entry_sum (j : Fin 256) : V m c main_cst_1 (ix2 0 j) = ((if j.val = 0 then 240 else 0 : ℝ) : EReal) := by
  suffices h : ∀ n : Fin 256, n.val = 0 * 256 + j.val →
      Ideal.ofBits .f32 (lit2 n) = ((if j.val = 0 then 240 else 0 : ℝ) : EReal) by
    rw [entry]
    entry_read
    exact h (S1x256.rowMajor (ix2 0 j)) (Shape.rowMajor_val_two (d := ![1, 256]) (ix2 0 j))
  intro n e
  rw [lit2_eq, ofBits_sum, show n.val = j.val from by omega]
  simp only [beq_iff_eq]

/-- The block that each window holds at point `t`: block `t` of the rows, the whole array of the others. -/
theorem index_rows : ∀ t : Fin cfg0.N, win0_0.index t = ![t.val, 0] := (by decide +kernel : ∀ t : Fin grid0.N, _)
theorem index_weights : ∀ t : Fin cfg0.N, win0_1.index t = ![0, 0] := (by decide +kernel : ∀ t : Fin grid0.N, _)
theorem index_bias : ∀ t : Fin cfg0.N, win0_2.index t = ![0, 0] := (by decide +kernel : ∀ t : Fin grid0.N, _)
theorem index_signed : ∀ t : Fin cfg0.N, win0_3.index t = ![0, 0, 0] := (by decide +kernel : ∀ t : Fin grid0.N, _)
theorem index_plain : ∀ t : Fin cfg0.N, win0_4.index t = ![0, 0] := (by decide +kernel : ∀ t : Fin grid0.N, _)
theorem index_coins : ∀ t : Fin cfg0.N, win0_5.index t = ![0, 0, 0] := (by decide +kernel : ∀ t : Fin grid0.N, _)
theorem index_sum : ∀ t : Fin cfg0.N, win0_6.index t = ![0, 0] := (by decide +kernel : ∀ t : Fin grid0.N, _)

/-- What point `t` reads. -/
theorem isPoint_iblk {X : ℕ → ℕ → ℝ} {W : ℕ → ℕ → ℝ} {b : ℕ → ℝ}
    (hx : ∀ (u : Fin 16) (s : Fin 1024) (k : Fin 768), m ((c : Thread nD τ).loc main_arg0) (ix3 u s k) = ((X (1024 * u + s) k : ℝ) : EReal))
    (hW : ∀ k n : Fin 768, m ((c : Thread nD τ).loc main_arg1) (ix2 k n) = ((W k n : ℝ) : EReal))
    (hb : ∀ n : Fin 768, m ((c : Thread nD τ).loc main_arg2) (ix1 n) = ((b n : ℝ) : EReal)) (t : Fin cfg0.N) :
    IsPoint (fun r => X (2048 * t.val + r)) W b (iblk m c 0 t) (iblk m c 1 t) (iblk m c 2 t) (iblk m c 3 t) (iblk m c 4 t)
      (iblk m c 5 t) (iblk m c 6 t) where
  row r k := by
    have ht : t.val < 8 := lt_of_lt_of_eq t.isLt N_0
    have hr := r.isLt
    refine Eq.trans ?_ ((entry_rows m c ⟨2048 * t.val + r.val, by omega⟩ k).trans ((hx _ _ k).trans ?_))
    · blk_ext [iblk, index_rows t]
    · show ((X (1024 * ((2048 * t.val + r.val) / 1024) + (2048 * t.val + r.val) % 1024) k : ℝ) : EReal) = _
      rw [Nat.div_add_mod]
  weights k n := by
    refine Eq.trans ?_ ((entry_weights m c k n).trans (hW k n))
    blk_ext [iblk, index_weights t]
  bias n := by
    refine Eq.trans ?_ ((entry_bias m c n).trans (hb n))
    blk_ext [iblk, index_bias t]
  signed a i g := by
    refine Eq.trans ?_ (entry_signed m c a i g)
    blk_ext [iblk, index_signed t]
  plain g j := by
    refine Eq.trans ?_ (entry_plain m c g j)
    blk_ext [iblk, index_plain t]
  coins a j := by
    refine Eq.trans ?_ (entry_coins m c a j)
    blk_ext [iblk, index_coins t]
  sum j := by
    refine Eq.trans ?_ (entry_sum m c j)
    blk_ext [iblk, index_sum t]

end Cert.Rotor

end
-- ==== Proof.KernelValue.lean ====
/- The kernel's result: the scratch holds the middle after every point, so every point leaves its rows of the plain result; the
   blocks tile the array; the host reshapes it. -/
module

public import proofs.«01_k».proof.Proof.KernelEntry
public import Idealize.ShloMosaic.Lib.Pipeline.Value

@[expose] public section

set_option maxRecDepth 16384

noncomputable section

namespace Cert.Rotor

open Idealize.ShloMosaic Idealize.ShloMosaic.TcCoe Idealize.ShloMosaic.Tactic Idealize.SL.Sem Cert.KernelIdeal Cert.KernelIdeal.Gen

variable (m : (ℓ : Loc nD τ sig) → Buf (Elt Ideal) ℓ) (c : Dev nD)

/-- The three arguments are real: the rows `X` (row `1024 u + s` is row `s` of sheet `u`), the weights and the bias. -/
structure IsArguments (X W : ℕ → ℕ → ℝ) (b : ℕ → ℝ) : Prop where
  rows (u : Fin 16) (s : Fin 1024) (k : Fin 768) :
    m ((c : Thread nD τ).loc main_arg0) (ix3 u s k) = ((X (1024 * u + s) k : ℝ) : EReal)
  weights (k n : Fin 768) : m ((c : Thread nD τ).loc main_arg1) (ix2 k n) = ((W k n : ℝ) : EReal)
  bias (n : Fin 768) : m ((c : Thread nD τ).loc main_arg2) (ix1 n) = ((b n : ℝ) : EReal)

variable {m c} {X W : ℕ → ℕ → ℝ} {b : ℕ → ℝ}

/-- What point `t` reads, of real arguments. -/
theorem IsArguments.point (h : IsArguments m c X W b) (t : Fin cfg0.N) :
    IsPoint (fun r => X (2048 * t.val + r)) W b (iblk m c 0 t) (iblk m c 1 t) (iblk m c 2 t) (iblk m c 3 t) (iblk m c 4 t)
      (iblk m c 5 t) (iblk m c 6 t) :=
  isPoint_iblk m c h.rows h.weights h.bias t

/-- The first point leaves the middle in the scratch … -/
theorem IsArguments.first_scratch (h : IsArguments m c X W b) (t : Fin cfg0.N) (h0 : t.val % 8 = 0) :
    IsScratch b (outsAt0 m c t.val t.isLt).2 := by
  have e := scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      scM0_0 (Memref.isWhole_whole _) ((hcond0_0 t).mpr h0) (h.point t)
  rw [outsAt0_A m c t h0]
  dsimp only
  exact e

/-- … and its rows of the plain result. -/
theorem IsArguments.first_block (h : IsArguments m c X W b) (t : Fin cfg0.N) (h0 : t.val % 8 = 0) (r : Fin 2048) (C : Fin 768) :
    (outsAt0 m c t.val t.isLt).1 (ix2 r C) = ((plainOut (fun n => lin (X (2048 * t.val + r)) W n + b n) C : ℝ) : EReal) := by
  have e := out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      scM0_0 (Memref.isWhole_whole _) ((hcond0_0 t).mpr h0) (h.point t) r C
  rw [outsAt0_A m c t h0]
  dsimp only
  exact e

/-- A later point that finds the middle in the scratch leaves it there, and its rows of the plain result. -/
theorem IsArguments.later (h : IsArguments m c X W b) (t : Fin cfg0.N) (h0 : ¬ t.val % 8 = 0)
    (hs : IsScratch b (outsAt0 m c (t.val - 1) (Nat.lt_of_le_of_lt (Nat.sub_le _ _) t.isLt)).2) :
    IsScratch b (outsAt0 m c t.val t.isLt).2 ∧ ∀ (r : Fin 2048) (C : Fin 768),
      (outsAt0 m c t.val t.isLt).1 (ix2 r C) = ((plainOut (fun n => lin (X (2048 * t.val + r)) W n + b n) C : ℝ) : EReal) := by
  rw [outsAt0_B m c t h0]
  dsimp only
  exact ⟨hs, out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      scM0_0 (Memref.isWhole_whole _) (fun h => h0 ((hcond0_0 t).mp h)) (h.point t) hs⟩

/-- After every point the scratch holds the middle: the first point writes it, the later ones keep it. -/
theorem IsArguments.scratch (h : IsArguments m c X W b) : ∀ (n : ℕ) (hn : n < cfg0.N), IsScratch b (outsAt0 m c n hn).2
  | 0, hn => h.first_scratch ⟨0, hn⟩ (Nat.zero_mod 8)
  | n + 1, hn => by
    have h8 : n + 1 < 8 := lt_of_lt_of_eq hn N_0
    exact (h.later ⟨n + 1, hn⟩ (by show ¬ (n + 1) % 8 = 0; omega) (h.scratch n _)).1

/-- Every point leaves its rows of the plain result. -/
theorem IsArguments.block (h : IsArguments m c X W b) (t : Fin cfg0.N) (r : Fin 2048) (C : Fin 768) :
    (outsAt0 m c t.val t.isLt).1 (ix2 r C) = ((plainOut (fun n => lin (X (2048 * t.val + r)) W n + b n) C : ℝ) : EReal) := by
  by_cases h0 : t.val % 8 = 0
  · exact h.first_block t h0 r C
  · exact (h.later t h0 (h.scratch _ _)).2 r C

/-- The plain result as an array of rows. -/
def rowsOut (X W : ℕ → ℕ → ℝ) (b : ℕ → ℝ) : Buf (Elt Ideal) ((c : Thread nD τ).loc main_v10) := fun i =>
  ((plainOut (fun n => lin (X (i 0).val) W n + b n) (i 1).val : ℝ) : EReal)

/-- Point `t` writes back block `t` of the rows, and every point does. -/
theorem index_out : ∀ t : Fin cfg0.N, win0_7.index t = ![t.val, 0] := (by decide +kernel : ∀ t : Fin grid0.N, _)
theorem flush_out : ∀ t : Fin cfg0.N, win0_7.flush t = true := (by decide +kernel : ∀ t : Fin grid0.N, _)

/-- What a point writes back is its block of the plain result. -/
theorem IsArguments.flushed (h : IsArguments m c X W b) (t : Fin cfg0.N) :
    (dats m 0 c).flushed 7 t = ((cfg0.win 7).blk t).view.read (Elt Ideal) (rowsOut (c := c) X W b) := by
  show (cfg0.win 7).cut (grid0.coords t) ((dats m 0 c).after 7 t) = _
  rw [after0_7]
  funext y
  have i0 : win0_7.index t (0 : Fin 2) = t.val := by rw [index_out]; rfl
  have i1 : win0_7.index t (1 : Fin 2) = 0 := by rw [index_out]; rfl
  have e0 : (((cfg0.win 7).blk t).view.emb y 0).val = 2048 * t.val + (y 0).val := by
    have e : (((cfg0.win 7).blk t).view.emb y 0).val = win0_7.index t (0 : Fin 2) * 2048 + 1 * (y 0).val := rfl
    rw [e, i0, Nat.one_mul, Nat.mul_comm]
  have e1 : (((cfg0.win 7).blk t).view.emb y 1).val = (y 1).val := by
    have e : (((cfg0.win 7).blk t).view.emb y 1).val = win0_7.index t (1 : Fin 2) * 768 + 1 * (y 1).val := rfl
    rw [e, i1, Nat.one_mul, Nat.zero_mul, Nat.zero_add]
  have hy : (cfg0.win 7).xinj (grid0.coords t) y = ix2 (⟨(y 0).val, (y 0).isLt⟩ : Fin 2048) (⟨(y 1).val, (y 1).isLt⟩ : Fin 768) := by
    funext a
    match a with
    | ⟨0, _⟩ => rfl
    | ⟨1, _⟩ => rfl
  refine (congrArg (outsAt0 m c t.val t.isLt).1 hy).trans ((h.block t _ _).trans ?_)
  show _ = rowsOut (c := c) X W b (((cfg0.win 7).blk t).view.emb y)
  unfold rowsOut
  rw [e0, e1]

/-- Every place of the array is in the block of the point its row belongs to. -/
theorem covered (i : S16384x768.Idx) : ∃ t : Fin cfg0.N, (cfg0.win 7).flush t = true ∧ i ∈ ((cfg0.win 7).blk t).view.set := by
  have h0 : (i 0).val < 16384 := (i 0).isLt
  have h1 : (i 1).val < 768 := (i 1).isLt
  have ht : (i 0).val / 2048 < cfg0.N := lt_of_lt_of_eq (by omega) N_0.symm
  refine ⟨⟨(i 0).val / 2048, ht⟩, flush_out _, ?_⟩
  show i ∈ ((View.whole main_v10).slice (win0_7.rect ⟨(i 0).val / 2048, ht⟩)).set
  rw [View.set_slice_whole, Rect.mem_set_unit]
  intro a
  have i0 : win0_7.index ⟨(i 0).val / 2048, ht⟩ (0 : Fin 2) = (i 0).val / 2048 := by rw [index_out]; rfl
  have i1 : win0_7.index ⟨(i 0).val / 2048, ht⟩ (1 : Fin 2) = 0 := by rw [index_out]; rfl
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    omega
  | ⟨1, _⟩ =>
    show win0_7.index ⟨(i 0).val / 2048, ht⟩ (1 : Fin 2) * 768 ≤ (i 1).val
      ∧ (i 1).val < win0_7.index ⟨(i 0).val / 2048, ht⟩ (1 : Fin 2) * 768 + 768
    omega

/-- The array of rows after the region is the plain result. -/
theorem IsArguments.rows_out (h : IsArguments m c X W b) : (dats m 0 c).arrAt 7 cfg0.N = rowsOut (c := c) X W b :=
  (dats m 0 c).arrAt_eq_of_cover 7 _ (fun t _ => h.flushed t) covered

/-- After the host's last reshape, the result is the plain one, sheet by sheet. -/
theorem IsArguments.result (h : IsArguments m c X W b) (u : Fin 16) (s : Fin 1024) (C : Fin 768) :
    Pipeline.afterTail₀ cfgs (dats m) 0 (V0 m) [hostOps1] c main_v11 (ix3 u s C)
      = ((plainOut (fun n => lin (X (1024 * u + s)) W n + b n) C : ℝ) : EReal) := by
  have hinj : Function.Injective (Pipeline.arrRef spec0) := by decide
  have ha := (Pipeline.withArrays_arr (τ := τ) spec0 hinj c (V0 m c) (fun w => (dats m 0 c).arrAt w cfg0.N) 7).trans h.rows_out
  unfold Pipeline.afterTail₀
  show StableHlo.after hostOps1 (Pipeline.withArrays spec0 c (V0 m c) fun w => (dats m 0 c).arrAt w cfg0.N)
    (Proc.devRef .tc main_v11) (ix3 u s C) = _
  entry_read
  rw [show Pipeline.withArrays spec0 c (V0 m c) (fun w => (dats m 0 c).arrAt w cfg0.N) (Proc.devRef .tc main_v10)
    = rowsOut (c := c) X W b from ha]
  pointwise [rowsOut]
  rw [Nat.mul_comm]

end Cert.Rotor

end
-- ==== Proof.KernelRun.lean ====
/- The kernel's run, read at its result: with real arguments it ends with the plain rotation's quantized result and keeps its
   arguments. -/
module

public import proofs.«01_k».proof.Proof.KernelValue

@[expose] public section

noncomputable section

namespace Cert.Rotor

open Idealize.ShloMosaic Idealize.ShloMosaic.TcCoe Idealize.SL.Sem Cert.KernelIdeal Cert.KernelIdeal.Gen

/-- The plain result, sheet by sheet. -/
def sheetsOut (X W : ℕ → ℕ → ℝ) (b : ℕ → ℝ) (c : Dev nD) : Buf (Elt Ideal) ((c : Thread nD τ).loc main_v11) := fun i =>
  ((plainOut (fun n => lin (X (1024 * (i 0).val + (i 1).val)) W n + b n) (i 2).val : ℝ) : EReal)

/-- The kernel's run: the result is the plain one, the arguments are kept. -/
theorem kernel_run (m : (ℓ : Loc nD τ sig) → Buf (Elt Ideal) ℓ) (ρ : Dev nD → PrngReg)
    {X W : Dev nD → ℕ → ℕ → ℝ} {b : Dev nD → ℕ → ℝ} (h : ∀ c, IsArguments m c (X c) (W c) (b c)) :
    θ_run defs (onTc (τ := τ) (main (F := Ideal))) ⟨m, fun _ => 0, ρ⟩ fun r => ∀ c : Dev nD,
      r.2.mem ((c.tc : Thread nD τ).loc main_v11) = sheetsOut (X c) (W c) (b c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ⟨?_, ?_, ?_, ?_⟩) (run_main m ρ)
  · refine ((hr c).2 main_v11 (Pipeline.mem_restRefs_of main_v11 (by decide) (by decide))).trans ?_
    funext i
    rw [eq_ix3 (n0 := 16) (n1 := 1024) (n2 := 768) i]
    exact (h c).result (i 0) (i 1) (i 2)
  · exact ((hr c).2 main_arg0 (Pipeline.mem_restRefs_of main_arg0 (by decide) (by decide))).trans (W_main_arg0 m (dats m) c)
  · exact ((hr c).2 main_arg1 (Pipeline.mem_restRefs_of main_arg1 (by decide) (by decide))).trans (W_main_arg1 m (dats m) c)
  · exact ((hr c).2 main_arg2 (Pipeline.mem_restRefs_of main_arg2 (by decide) (by decide))).trans (W_main_arg2 m (dats m) c)

end Cert.Rotor

end
-- ==== Proof.Finite.lean ====
/- The precondition, read: an argument whose every magnitude is below infinity has real entries. -/
module

public import proofs.«01_k».proof.Proof.KernelValue
public import proofs.«01_k».proof.Defs

@[expose] public section

noncomputable section

namespace Cert.Rotor

open Idealize.ShloMosaic Idealize.ShloMosaic.TcCoe Idealize.SL.Sem

/-- The shapes the precondition's constants are spread to. -/
instance finite_facts : Cert.Pre_finite_arguments.Facts := ⟨by decide, by decide, by decide⟩

/-- An extended real whose magnitude compares below infinity is the real it projects to. -/
theorem real_of_compare (v : EReal) (h : FloatOps.cmpf .olt (FloatOps.hostAbsf (F := Ideal) (φ := .f32) v) (FloatOps.ofBits (F := Ideal) .f32 0x7F800000#32) = 1#1) :
    v = ((v.toReal : ℝ) : EReal) := by
  have e : Ideal.ofBits .f32 0x7F800000#32 = ⊤ := by simp [Ideal.ofBits, Ideal.ieee]
  have h' : Ideal.cmp .olt (max v (-v)) (Ideal.ofBits .f32 0x7F800000#32) = 1#1 := h
  rw [e] at h'
  have hlt : max v (-v) < ⊤ := by
    by_contra hn
    simp [Ideal.cmp, hn] at h'
  rw [max_lt_iff] at hlt
  refine (EReal.coe_toReal hlt.1.ne ?_).symm
  rintro rfl
  simp at hlt

variable {m : (ℓ : Loc KernelIdeal.nD KernelIdeal.τ KernelIdeal.sig) → Buf (Elt Ideal) ℓ}

/-- Under the precondition the three arguments are real. -/
theorem isArguments_of_finite (h : Cert.Pre_KernelIdeal_finite_arguments m) (c : Dev KernelIdeal.nD) :
    ∃ (X W : ℕ → ℕ → ℝ) (b : ℕ → ℝ), IsArguments m c X W b := by
  obtain ⟨h0, h1, h2⟩ := h c
  refine ⟨fun N k => if hN : N < 16384 ∧ k < 768 then
      (m ((c : Thread KernelIdeal.nD KernelIdeal.τ).loc KernelIdeal.main_arg0)
        (ix3 (⟨N / 1024, by omega⟩ : Fin 16) (⟨N % 1024, by omega⟩ : Fin 1024) (⟨k, hN.2⟩ : Fin 768)) : EReal).toReal else 0,
    fun k n => if hk : k < 768 ∧ n < 768 then
      (m ((c : Thread KernelIdeal.nD KernelIdeal.τ).loc KernelIdeal.main_arg1) (ix2 (⟨k, hk.1⟩ : Fin 768) (⟨n, hk.2⟩ : Fin 768)) : EReal).toReal
      else 0,
    fun n => if hn : n < 768 then
      (m ((c : Thread KernelIdeal.nD KernelIdeal.τ).loc KernelIdeal.main_arg2) (ix1 (⟨n, hn⟩ : Fin 768)) : EReal).toReal else 0, ?_, ?_, ?_⟩
  · intro u s k
    have hu := u.isLt
    have hs := s.isLt
    have eu : (1024 * u.val + s.val) / 1024 = u.val := by omega
    have es : (1024 * u.val + s.val) % 1024 = s.val := by omega
    rw [dif_pos ⟨by omega, k.isLt⟩]
    have eu' : (⟨(1024 * u.val + s.val) / 1024, by omega⟩ : Fin 16) = u := Fin.ext eu
    have es' : (⟨(1024 * u.val + s.val) % 1024, by omega⟩ : Fin 1024) = s := Fin.ext es
    rw [eu', es']
    exact real_of_compare _ (congrFun h0 (ix3 u s k))
  · intro k n
    rw [dif_pos ⟨k.isLt, n.isLt⟩]
    exact real_of_compare _ (congrFun h1 (ix2 k n))
  · intro n
    rw [dif_pos n.isLt]
    exact real_of_compare _ (congrFun h2 (ix1 n))

end Cert.Rotor

end
-- ==== Proof.lean ====
/- The certificate's claims: the three programs run and keep their arguments; the kernel's idealization is its own text; and on
   finite arguments the idealized kernel computes what the reference computes over the extended reals. -/
module

public import proofs.«01_k».proof.Defs
public import proofs.«01_k».proof.Proof.Gen.Kernel.Frame
public import proofs.«01_k».proof.Proof.RefValue
public import proofs.«01_k».proof.Proof.KernelRun
public import proofs.«01_k».proof.Proof.Finite

@[expose] public section

noncomputable section

namespace Cert.Proof

open Idealize.ShloMosaic Idealize.ShloMosaic.TcCoe Idealize.SL.Sem Cert.Rotor

/-- The reference runs, keeps its arguments, and leaves every counter at zero: it declares none. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2))
        ∧ r.2.sem = fun _ => 0) :=
  (θ_run ReferenceIdeal.defs _ _).mono (fun r h => ⟨fun c => (h c).2, sem_eq_zero_of_no_sems (by decide) r.2⟩) (reference_run m ρ)

/-- On finite arguments the kernel and the reference end with the same result: the plain one. -/
theorem same_result : Cert.algebraic_KernelIdeal_ReferenceIdeal_pre_finite_arguments := by
  intro m g m' g' hpre hagree
  choose X W b h using isArguments_of_finite hpre
  refine ⟨fun c => sheetsOut (X c) (W c) (b c) c, kernel_run m g h, ?_⟩
  refine (θ_run ReferenceIdeal.defs _ _).mono (fun r hr c => ⟨(hr c).1.trans ?_, (hr c).2⟩) (reference_run m' g')
  obtain ⟨e0, e1, e2⟩ := hagree c
  funext i
  rw [eq_ix3 (n0 := 16) (n1 := 1024) (n2 := 768) i]
  exact reference_apply (StableHlo.launchContents m' c) (i 0) (i 1) (X c (1024 * (i 0).val + (i 1).val)) (b c) (W c)
    (fun k => (congrFun e0 _).trans ((h c).rows (i 0) (i 1) k)) (fun k n => (congrFun e1 _).trans ((h c).weights k n))
    (fun n => (congrFun e2 _).trans ((h c).bias n)) (i 2)

theorem claim : Cert.Claim := ⟨Cert.Kernel.Gen.facts, Cert.KernelIdeal.Gen.facts, Cert.ReferenceIdeal.Gen.facts, finite_facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  same_result⟩

end Cert.Proof

end
